-- ==== Defs.lean ====
def Pre_Kernel [hPre_boxes_in_range : Cert.Pre_boxes_in_range.Facts] (m : (ℓ : Loc Cert.Kernel.nD Cert.Kernel.τ Cert.Kernel.sig) → Buf (Elt Bits) ℓ) : Prop :=
  ∀ c : Dev Cert.Kernel.nD,
    (Cert.Pre_boxes_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_boxes_in_range : Cert.Pre_boxes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_in_range [hPre_boxes_in_range : Cert.Pre_boxes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_boxes_in_range : Cert.Pre_boxes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_boxes_in_range : Cert.Pre_boxes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_boxes_in_range [hReferenceIdeal : Cert.ReferenceIdeal.Facts] [hPre_boxes_in_range : Cert.Pre_boxes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_boxes_in_range : Cert.Pre_boxes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_boxes_in_range : Cert.Pre_boxes_in_range.Facts),
    quiescent_Kernel (hKernel := hKernel) (hPre_boxes_in_range := hPre_boxes_in_range)
    ∧ quiescent_KernelIdeal (hKernelIdeal := hKernelIdeal) (hPre_boxes_in_range := hPre_boxes_in_range)
    ∧ quiescent_ReferenceIdeal (hReferenceIdeal := hReferenceIdeal)
    ∧ quiescent_ReferenceIdeal_pre_boxes_in_range (hReferenceIdeal := hReferenceIdeal) (hPre_boxes_in_range := hPre_boxes_in_range)
    ∧ preserves_Kernel_KernelIdeal
    ∧ algebraic_KernelIdeal_ReferenceIdeal (hKernelIdeal := hKernelIdeal) (hReferenceIdeal := hReferenceIdeal) (hPre_boxes_in_range := hPre_boxes_in_range)
-- ==== Pre_boxes_in_range.lean ====
abbrev S2x32x8x16x96x96 : Shape := ⟨6, ![2, 32, 8, 16, 96, 96]⟩
abbrev S2x16x8 : Shape := ⟨3, ![2, 16, 8]⟩
abbrev S4 : Shape := ⟨1, ![4]⟩
abbrev S2x16x4 : Shape := ⟨3, ![2, 16, 4]⟩
abbrev S1x1x4 : Shape := ⟨3, ![1, 1, 4]⟩

class Facts : Prop where
  slices_S2x16x8_S2x16x4_0_0_0 : S2x16x8.Slices ![0, 0, 0] S2x16x4
  slices_S2x16x8_S2x16x4_0_0_4 : S2x16x8.Slices ![0, 0, 4] S2x16x4
  bcast_S4_S1x1x4_2 : S4.BroadcastsInDim S1x1x4 (![2] : Fin 1 → Fin S1x1x4.rank)
  bcast_S1x1x4_S2x16x4_0_1_2 : S1x1x4.BroadcastsInDim S2x16x4 (![0, 1, 2] : Fin 3 → Fin S2x16x4.rank)

variable [Facts]

noncomputable abbrev lit0 : Fin 4 → BitVec 32 := fun
  | 0 => 0#32 | 1 => 7#32 | 2 => 47#32 | 3 => 47#32
  | _ => 0#32

noncomputable abbrev lit1 : Fin 4 → BitVec 32 := fun
  | 0 => 8#32 | 1 => 4#32 | 2 => 7#32 | 3 => 7#32
  | _ => 0#32

noncomputable abbrev lit2 : Fin 4 → BitVec 32 := fun
  | 0 => 8#32 | 1 => 8#32 | 2 => 48#32 | 3 => 48#32
  | _ => 0#32

def fn {F : FTy → Type} [FloatOps F] (main_arg0 : FVec F S2x32x8x16x96x96 .f32) (main_arg1 : IVec S2x16x8 32) : IVec S2x16x4 1 :=
  let main_c : IVec S4 32 := constantI S4 32 0#32
  let main_c_0 : IVec S4 32 := fun i => lit0 (S4.rowMajor i)
  let main_c_1 : IVec S4 32 := fun i => lit1 (S4.rowMajor i)
  let main_c_2 : IVec S4 32 := fun i => lit2 (S4.rowMajor i)
  let main_v0 : IVec S2x16x4 32 := (extractStridedSlice S2x16x4 ![0, 0, 0] · slices_S2x16x8_S2x16x4_0_0_0) main_arg1
  let main_v1 : IVec S2x16x4 32 := (extractStridedSlice S2x16x4 ![0, 0, 4] · slices_S2x16x8_S2x16x4_0_0_4) main_arg1
  let main_v2 : IVec S2x16x4 32 := subi main_v1 main_v0
  let main_v3 : IVec S1x1x4 32 := broadcastInDim S1x1x4 ![2] bcast_S4_S1x1x4_2 main_c
  let main_v4 : IVec S2x16x4 32 := broadcastInDim S2x16x4 ![0, 1, 2] bcast_S1x1x4_S2x16x4_0_1_2 main_v3
  let main_v5 : IVec S2x16x4 1 := cmpi .sge main_v0 main_v4
  let main_v6 : IVec S1x1x4 32 := broadcastInDim S1x1x4 ![2] bcast_S4_S1x1x4_2 main_c_0
  let main_v7 : IVec S2x16x4 32 := broadcastInDim S2x16x4 ![0, 1, 2] bcast_S1x1x4_S2x16x4_0_1_2 main_v6
  let main_v8 : IVec S2x16x4 1 := cmpi .sle main_v0 main_v7
  let main_v9 : IVec S2x16x4 1 := andi main_v5 main_v8
  let main_v10 : IVec S1x1x4 32 := broadcastInDim S1x1x4 ![2] bcast_S4_S1x1x4_2 main_c_1
  let main_v11 : IVec S2x16x4 32 := broadcastInDim S2x16x4 ![0, 1, 2] bcast_S1x1x4_S2x16x4_0_1_2 main_v10
  let main_v12 : IVec S2x16x4 1 := cmpi .sge main_v2 main_v11
  let main_v13 : IVec S2x16x4 1 := andi main_v9 main_v12
  let main_v14 : IVec S1x1x4 32 := broadcastInDim S1x1x4 ![2] bcast_S4_S1x1x4_2 main_c_2
  let main_v15 : IVec S2x16x4 32 := broadcastInDim S2x16x4 ![0, 1, 2] bcast_S1x1x4_S2x16x4_0_1_2 main_v14
  let main_v16 : IVec S2x16x4 1 := cmpi .sle main_v2 main_v15
  let main_v17 : IVec S2x16x4 1 := andi main_v13 main_v16
  main_v17
-- ==== Kernel.lean ====
abbrev S2x32x8x16x96x96 : Shape := ⟨6, ![2, 32, 8, 16, 96, 96]⟩
abbrev S2x16x8 : Shape := ⟨3, ![2, 16, 8]⟩
abbrev S2x4x96x16x32x96 : Shape := ⟨6, ![2, 4, 96, 16, 32, 96]⟩
abbrev S1x8x8x16x24x96 : Shape := ⟨6, ![1, 8, 8, 16, 24, 96]⟩
abbrev S1x4x24x16x8x96 : Shape := ⟨6, ![1, 4, 24, 16, 8, 96]⟩
abbrev S8x8x16x24x96 : Shape := ⟨5, ![8, 8, 16, 24, 96]⟩
abbrev S8x1x16x24x96 : Shape := ⟨5, ![8, 1, 16, 24, 96]⟩
abbrev S8x16x24x96 : Shape := ⟨4, ![8, 16, 24, 96]⟩
abbrev S24x16x8x96 : Shape := ⟨4, ![24, 16, 8, 96]⟩
abbrev S1x1x24x16x8x96 : Shape := ⟨6, ![1, 1, 24, 16, 8, 96]⟩
abbrev S32x32x4x4x7x7 : Shape := ⟨6, ![32, 32, 4, 4, 7, 7]⟩
abbrev S1x4x96x16x8x96 : Shape := ⟨6, ![1, 4, 96, 16, 8, 96]⟩
abbrev S1x8x4x4x7x7 : Shape := ⟨6, ![1, 8, 4, 4, 7, 7]⟩
abbrev S4x7x8x8x96 : Shape := ⟨5, ![4, 7, 8, 8, 96]⟩
abbrev S4x4x7x8x7 : Shape := ⟨5, ![4, 4, 7, 8, 7]⟩
abbrev S1x1x1 : Shape := ⟨3, ![1, 1, 1]⟩
abbrev S1x8x1x1x1 : Shape := ⟨5, ![1, 8, 1, 1, 1]⟩
abbrev S1x4x8x8x8x96 : Shape := ⟨6, ![1, 4, 8, 8, 8, 96]⟩
abbrev S4x8x8x8x96 : Shape := ⟨5, ![4, 8, 8, 8, 96]⟩
abbrev S4x8x8x96 : Shape := ⟨4, ![4, 8, 8, 96]⟩
abbrev S4x1x8x8x96 : Shape := ⟨5, ![4, 1, 8, 8, 96]⟩
abbrev S1x1x3x1x1 : Shape := ⟨5, ![1, 1, 3, 1, 1]⟩
abbrev S4x7x3x8x96 : Shape := ⟨5, ![4, 7, 3, 8, 96]⟩
abbrev S4x7x8x96 : Shape := ⟨4, ![4, 7, 8, 96]⟩
abbrev S4x1x7x8x96 : Shape := ⟨5, ![4, 1, 7, 8, 96]⟩
abbrev S4x4x7x8x96 : Shape := ⟨5, ![4, 4, 7, 8, 96]⟩
abbrev S1x1x1x1x96 : Shape := ⟨5, ![1, 1, 1, 1, 96]⟩
abbrev S4x4x7x8 : Shape := ⟨4, ![4, 4, 7, 8]⟩
abbrev S4x4x7x8x1 : Shape := ⟨5, ![4, 4, 7, 8, 1]⟩
abbrev S4x4x7x1x7 : Shape := ⟨5, ![4, 4, 7, 1, 7]⟩
abbrev S4x4x7x7 : Shape := ⟨4, ![4, 4, 7, 7]⟩
abbrev S1x1x4x4x7x7 : Shape := ⟨6, ![1, 1, 4, 4, 7, 7]⟩

abbrev nBuf : Space → Nat
  | .hbm => 3
  | .vmem => 10
  | .smem => 1
  | _ => 0

abbrev bufTy : (tb : Table) → Fin (tcTables nBuf tb) → BufTy
  | .hbm, ⟨0, _⟩ => ⟨S2x32x8x16x96x96, .f32⟩
  | .hbm, ⟨1, _⟩ => ⟨S2x4x96x16x32x96, .f32⟩
  | .hbm, ⟨2, _⟩ => ⟨S32x32x4x4x7x7, .f32⟩
  | .local _ .vmem, ⟨0, _⟩ => ⟨S1x8x8x16x24x96, .f32⟩
  | .local _ .vmem, ⟨1, _⟩ => ⟨S1x8x8x16x24x96, .f32⟩
  | .local _ .vmem, ⟨2, _⟩ => ⟨S1x4x24x16x8x96, .f32⟩
  | .local _ .vmem, ⟨3, _⟩ => ⟨S1x4x24x16x8x96, .f32⟩
  | .local _ .vmem, ⟨4, _⟩ => ⟨S1x4x96x16x8x96, .f32⟩
  | .local _ .vmem, ⟨5, _⟩ => ⟨S1x4x96x16x8x96, .f32⟩
  | .local _ .vmem, ⟨6, _⟩ => ⟨S1x8x4x4x7x7, .f32⟩
  | .local _ .vmem, ⟨7, _⟩ => ⟨S1x8x4x4x7x7, .f32⟩
  | .local _ .vmem, ⟨8, _⟩ => ⟨S4x7x8x8x96, .f32⟩
  | .local _ .vmem, ⟨9, _⟩ => ⟨S4x4x7x8x7, .f32⟩
  | .local _ .smem, ⟨0, _⟩ => ⟨S2x16x8, .i32⟩
  | _, _ => ⟨S2x32x8x16x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_scratch0 : Ref sig .tc := ⟨.vmem, 8, rfl⟩
abbrev cc1_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, arg2.toNat, c0_i32_1.toNat]

def cc0_transform_1 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg2.toNat, c0_i32_0.toNat, arg1.toNat, c0_i32_1.toNat]

abbrev stage0_0 : Fin 2 → Memref sig .tc .vmem S1x8x8x16x24x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x24x16x8x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev grid1 : Pipeline.Grid := ⟨2, ![8, 16], ![false, false]⟩

abbrev pre1 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : Index := Scalar.indexCast v16
  let arg1 : BitVec 32 := BitVec.ofNat 32 (i 1).val
  let v18 : Index := Scalar.indexCast arg1
  let c1 : Index := 1#32
  ![v17.toNat, v18.toNat, 1]
def k1_off2 (i : grid1.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v20 : Index := Scalar.indexCast v16
  let arg1 : BitVec 32 := BitVec.ofNat 32 (i 1).val
  let v21 : Index := Scalar.indexCast arg1
  let c2 : Index := 2#32
  ![v20.toNat, v21.toNat, 2]
def k1_off3 (i : grid1.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v23 : Index := Scalar.indexCast v16
  let arg1 : BitVec 32 := BitVec.ofNat 32 (i 1).val
  let v24 : Index := Scalar.indexCast arg1
  let c3 : Index := 3#32
  ![v23.toNat, v24.toNat, 3]
def k1_off4 (i : grid1.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v26 : Index := Scalar.indexCast v16
  let arg1 : BitVec 32 := BitVec.ofNat 32 (i 1).val
  let v27 : Index := Scalar.indexCast arg1
  let c5 : Index := 5#32
  ![v26.toNat, v27.toNat, 5]
def k1_off5 (i : grid1.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v30 : Index := Scalar.indexCast v16
  let arg1 : BitVec 32 := BitVec.ofNat 32 (i 1).val
  let v31 : Index := Scalar.indexCast arg1
  let c6 : Index := 6#32
  ![v30.toNat, v31.toNat, 6]
def k1_off6 (i : grid1.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v34 : Index := Scalar.indexCast v16
  let arg1 : BitVec 32 := BitVec.ofNat 32 (i 1).val
  let v35 : Index := Scalar.indexCast arg1
  let c7 : Index := 7#32
  ![v34.toNat, v35.toNat, 7]
def k1_off7 (v19 : BitVec 32) (v22 : BitVec 32) (v32 : BitVec 32) (c0_i32_4 : BitVec 32) : Fin 6 → Nat :=
  let c0 : Index := 0#32
  let c0_21 : Index := 0#32
  let v33 : BitVec 32 := Scalar.subi v32 v22
  let v39 : BitVec 32 := Scalar.muli c0_i32_4 v33
  let c0_i32_5 : BitVec 32 := 0#32
  let v41 : BitVec 1 := Scalar.cmpi .sgt v39 c0_i32_5
  let v42 : BitVec 32 := Scalar.extui v41
  let c0_i32_6 : BitVec 32 := 0#32
  let v43 : BitVec 1 := Scalar.cmpi .slt v39 c0_i32_6
  let v44 : BitVec 32 := Scalar.extui v43
  let v45 : BitVec 32 := Scalar.subi v42 v44
  let c7_i32 : BitVec 32 := 7#32
  let c0_i32_7 : BitVec 32 := 0#32
  let v46 : BitVec 1 := Scalar.cmpi .sgt c7_i32 c0_i32_7
  let v47 : BitVec 32 := Scalar.extui v46
  let c0_i32_8 : BitVec 32 := 0#32
  let v48 : BitVec 1 := Scalar.cmpi .slt c7_i32 c0_i32_8
  let v49 : BitVec 32 := Scalar.extui v48
  let v50 : BitVec 32 := Scalar.subi v47 v49
  let v51 : BitVec 1 := Scalar.cmpi .ne v45 v50
  let v52 : BitVec 32 := Scalar.remsi v39 c7_i32
  let c0_i32_9 : BitVec 32 := 0#32
  let v53 : BitVec 1 := Scalar.cmpi .ne v52 c0_i32_9
  let v54 : BitVec 1 := Scalar.andi v51 v53
  let v40 : BitVec 32 := Scalar.divsi v39 c7_i32
  let c1_i32_10 : BitVec 32 := 1#32
  let v55 : BitVec 32 := Scalar.subi v40 c1_i32_10
  let v56 : BitVec 32 := Scalar.select v54 v55 v40
  let v77 : BitVec 32 := Scalar.addi v22 v56
  let c88_i32 : BitVec 32 := 88#32
  let v78 : BitVec 32 := Scalar.minsi v77 c88_i32
  let v88 : Index := Scalar.indexCast v78
  let v89 : Index := Scalar.indexCast v19
  let c0_22 : Index := 0#32
  let c0_23 : Index := 0#32
  ![0, 0, v88.toNat, v89.toNat, 0, 0]

def k1_chk1 (v19 : BitVec 32) (v22 : BitVec 32) (v32 : BitVec 32) : Prop :=
  (∀ (r : Fin 7), ∀ a, (k1_off7 v19 v22 v32 (BitVec.ofNat 32 r.val)) a + S1x4x8x8x8x96.size a ≤ S1x4x96x16x8x96.size a)
theorem k1_off7_inb : ∀ (v19 : BitVec 32) (v22 : BitVec 32) (v32 : BitVec 32) (k1_hw1 : k1_chk1 v19 v22 v32), ∀ (r : Fin 7), ∀ a, (k1_off7 v19 v22 v32 (BitVec.ofNat 32 r.val)) a + S1x4x8x8x8x96.size a ≤ S1x4x96x16x8x96.size a := fun v19 v22 v32 k1_hw1 r => k1_hw1 r

def k1_off8 (v19 : BitVec 32) (v28 : BitVec 32) (c0_i32_176 : BitVec 32) : Fin 5 → Nat :=
  let c0_195 : Index := 0#32
  let c0_196 : Index := 0#32
  let v29 : BitVec 32 := Scalar.subi v28 v19
  let v457 : BitVec 32 := Scalar.muli c0_i32_176 v29
  let c0_i32_178 : BitVec 32 := 0#32
  let v459 : BitVec 1 := Scalar.cmpi .sgt v457 c0_i32_178
  let v460 : BitVec 32 := Scalar.extui v459
  let c0_i32_179 : BitVec 32 := 0#32
  let v461 : BitVec 1 := Scalar.cmpi .slt v457 c0_i32_179
  let v462 : BitVec 32 := Scalar.extui v461
  let v463 : BitVec 32 := Scalar.subi v460 v462
  let c4_i32_177 : BitVec 32 := 4#32
  let c0_i32_180 : BitVec 32 := 0#32
  let v464 : BitVec 1 := Scalar.cmpi .sgt c4_i32_177 c0_i32_180
  let v465 : BitVec 32 := Scalar.extui v464
  let c0_i32_181 : BitVec 32 := 0#32
  let v466 : BitVec 1 := Scalar.cmpi .slt c4_i32_177 c0_i32_181
  let v467 : BitVec 32 := Scalar.extui v466
  let v468 : BitVec 32 := Scalar.subi v465 v467
  let v469 : BitVec 1 := Scalar.cmpi .ne v463 v468
  let v470 : BitVec 32 := Scalar.remsi v457 c4_i32_177
  let c0_i32_182 : BitVec 32 := 0#32
  let v471 : BitVec 1 := Scalar.cmpi .ne v470 c0_i32_182
  let v472 : BitVec 1 := Scalar.andi v469 v471
  let v458 : BitVec 32 := Scalar.divsi v457 c4_i32_177
  let c1_i32_183 : BitVec 32 := 1#32
  let v473 : BitVec 32 := Scalar.subi v458 c1_i32_183
  let v474 : BitVec 32 := Scalar.select v472 v473 v458
  let c5_i32_194 : BitVec 32 := 5#32
  let v495 : BitVec 32 := Scalar.minsi v474 c5_i32_194
  let v503 : Index := Scalar.indexCast v495
  let c0_197 : Index := 0#32
  let c0_198 : Index := 0#32
  ![0, 0, v503.toNat, 0, 0]

def k1_chk2 (v19 : BitVec 32) (v28 : BitVec 32) : Prop :=
  (∀ (r : Fin 4), ∀ a, (k1_off8 v19 v28 (BitVec.ofNat 32 r.val)) a + S4x7x3x8x96.size a ≤ S4x7x8x8x96.size a)
theorem k1_off8_inb : ∀ (v19 : BitVec 32) (v28 : BitVec 32) (k1_hw2 : k1_chk2 v19 v28), ∀ (r : Fin 4), ∀ a, (k1_off8 v19 v28 (BitVec.ofNat 32 r.val)) a + S4x7x3x8x96.size a ≤ S4x7x8x8x96.size a := fun v19 v28 k1_hw2 r => k1_hw2 r

def cc1_transform_0 (i : grid1.Coords) : Fin 6 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  let c0_i32_14 : BitVec 32 := 0#32
  ![v16.toNat, c0_i32_10.toNat, c0_i32_11.toNat, c0_i32_12.toNat, v26.toNat, c0_i32_13.toNat]

def cc1_transform_1 (i : grid1.Coords) : Fin 6 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let v18 : BitVec 32 := Scalar.addi v17 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  let c0_i32_12 : BitVec 32 := 0#32
  let c0_i32_13 : BitVec 32 := 0#32
  let c0_i32_14 : BitVec 32 := 0#32
  ![v18.toNat, v28.toNat, c0_i32_10.toNat, c0_i32_11.toNat, c0_i32_12.toNat, c0_i32_13.toNat]

abbrev stage1_0 : Fin 2 → Memref sig .tc .vmem S1x4x96x16x8x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x8x4x4x7x7 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]
-- ==== ReferenceIdeal.lean ====
abbrev S2x32x8x16x96x96 : Shape := ⟨6, ![2, 32, 8, 16, 96, 96]⟩
abbrev S2x16x8 : Shape := ⟨3, ![2, 16, 8]⟩
abbrev S2x16x32x8x16x96x96 : Shape := ⟨7, ![2, 16, 32, 8, 16, 96, 96]⟩
abbrev S32x32x8x16x96x96 : Shape := ⟨6, ![32, 32, 8, 16, 96, 96]⟩
abbrev S32x8 : Shape := ⟨2, ![32, 8]⟩
abbrev S8x32 : Shape := ⟨2, ![8, 32]⟩
abbrev S1x32 : Shape := ⟨2, ![1, 32]⟩
abbrev S32 : Shape := ⟨1, ![32]⟩
abbrev S32x1 : Shape := ⟨2, ![32, 1]⟩
abbrev S7 : Shape := ⟨1, ![7]⟩
abbrev S1x7 : Shape := ⟨2, ![1, 7]⟩
abbrev S32x7 : Shape := ⟨2, ![32, 7]⟩
abbrev S_ : Shape := ⟨0, ![]⟩
abbrev S96 : Shape := ⟨1, ![96]⟩
abbrev S32x7x1 : Shape := ⟨3, ![32, 7, 1]⟩
abbrev S1x1x96 : Shape := ⟨3, ![1, 1, 96]⟩
abbrev S32x7x96 : Shape := ⟨3, ![32, 7, 96]⟩
abbrev S32x1x1x1x1x7x96 : Shape := ⟨7, ![32, 1, 1, 1, 1, 7, 96]⟩
abbrev S32x32x8x16x96x1x96 : Shape := ⟨7, ![32, 32, 8, 16, 96, 1, 96]⟩
abbrev S32x32x8x16x96x7x96 : Shape := ⟨7, ![32, 32, 8, 16, 96, 7, 96]⟩
abbrev S32x32x8x16x96x7 : Shape := ⟨6, ![32, 32, 8, 16, 96, 7]⟩
abbrev S32x1x1x1x7x96x1 : Shape := ⟨7, ![32, 1, 1, 1, 7, 96, 1]⟩
abbrev S32x32x8x16x1x96x7 : Shape := ⟨7, ![32, 32, 8, 16, 1, 96, 7]⟩
abbrev S32x32x8x16x7x96x7 : Shape := ⟨7, ![32, 32, 8, 16, 7, 96, 7]⟩
abbrev S32x32x8x16x7x7 : Shape := ⟨6, ![32, 32, 8, 16, 7, 7]⟩
abbrev S4 : Shape := ⟨1, ![4]⟩
abbrev S1x4 : Shape := ⟨2, ![1, 4]⟩
abbrev S32x4 : Shape := ⟨2, ![32, 4]⟩
abbrev S16 : Shape := ⟨1, ![16]⟩
abbrev S32x4x1 : Shape := ⟨3, ![32, 4, 1]⟩
abbrev S1x1x16 : Shape := ⟨3, ![1, 1, 16]⟩
abbrev S32x4x16 : Shape := ⟨3, ![32, 4, 16]⟩
abbrev S32x1x1x4x16x1x1 : Shape := ⟨7, ![32, 1, 1, 4, 16, 1, 1]⟩
abbrev S32x32x8x1x16x7x7 : Shape := ⟨7, ![32, 32, 8, 1, 16, 7, 7]⟩
abbrev S32x32x8x4x16x7x7 : Shape := ⟨7, ![32, 32, 8, 4, 16, 7, 7]⟩
abbrev S32x32x8x4x7x7 : Shape := ⟨6, ![32, 32, 8, 4, 7, 7]⟩
abbrev S8 : Shape := ⟨1, ![8]⟩
abbrev S1x1x8 : Shape := ⟨3, ![1, 1, 8]⟩
abbrev S32x4x8 : Shape := ⟨3, ![32, 4, 8]⟩
abbrev S32x1x4x8x1x1x1 : Shape := ⟨7, ![32, 1, 4, 8, 1, 1, 1]⟩
abbrev S32x32x1x8x4x7x7 : Shape := ⟨7, ![32, 32, 1, 8, 4, 7, 7]⟩
abbrev S32x32x4x8x4x7x7 : Shape := ⟨7, ![32, 32, 4, 8, 4, 7, 7]⟩
abbrev S32x32x4x4x7x7 : Shape := ⟨6, ![32, 32, 4, 4, 7, 7]⟩

abbrev nBuf : Space → Nat
  | .hbm => 354
  | .vmem => 0
  | .smem => 0
  | _ => 0

abbrev hbmTy0_0 (i : Nat) : BufTy := match i % 128 with
  | 0 => ⟨S2x32x8x16x96x96, .f32⟩
  | 1 => ⟨S2x16x8, .i32⟩
  | 2 => ⟨S2x16x32x8x16x96x96, .f32⟩
  | 3 => ⟨S32x32x8x16x96x96, .f32⟩
  | 4 => ⟨S32x8, .i32⟩
  | 5 => ⟨S8x32, .i32⟩
  | 6 => ⟨S1x32, .i32⟩
  | 7 => ⟨S32, .i32⟩
  | 8 => ⟨S1x32, .i32⟩
  | 9 => ⟨S32, .i32⟩
  | 10 => ⟨S1x32, .i32⟩
  | 11 => ⟨S32, .i32⟩
  | 12 => ⟨S1x32, .i32⟩
  | 13 => ⟨S32, .i32⟩
  | 14 => ⟨S1x32, .i32⟩
  | 15 => ⟨S32, .i32⟩
  | 16 => ⟨S1x32, .i32⟩
  | 17 => ⟨S32, .i32⟩
  | 18 => ⟨S1x32, .i32⟩
  | 19 => ⟨S32, .i32⟩
  | 20 => ⟨S1x32, .i32⟩
  | 21 => ⟨S32, .i32⟩
  | 22 => ⟨S32, .i32⟩
  | 23 => ⟨S32x1, .i32⟩
  | 24 => ⟨S7, .i32⟩
  | 25 => ⟨S32x1, .i32⟩
  | 26 => ⟨S1x7, .i32⟩
  | 27 => ⟨S32x7, .i32⟩
  | 28 => ⟨S32x7, .i32⟩
  | 29 => ⟨S32x7, .i32⟩
  | 30 => ⟨S_, .i32⟩
  | 31 => ⟨S_, .i32⟩
  | 32 => ⟨S32x7, .i32⟩
  | 33 => ⟨S32x7, .i32⟩
  | 34 => ⟨S32x7, .i32⟩
  | 35 => ⟨S_, .i32⟩
  | 36 => ⟨S32x7, .i32⟩
  | 37 => ⟨S32x7, .i1⟩
  | 38 => ⟨S32x7, .i32⟩
  | 39 => ⟨S32x7, .i32⟩
  | 40 => ⟨S_, .i32⟩
  | 41 => ⟨S32x7, .i32⟩
  | 42 => ⟨S32x7, .i1⟩
  | 43 => ⟨S32x7, .i1⟩
  | 44 => ⟨S_, .i32⟩
  | 45 => ⟨S32x7, .i32⟩
  | 46 => ⟨S32x7, .i32⟩
  | 47 => ⟨S32x7, .i32⟩
  | 48 => ⟨S32x7, .i32⟩
  | 49 => ⟨S32x7, .i32⟩
  | 50 => ⟨S32x1, .i32⟩
  | 51 => ⟨S_, .i32⟩
  | 52 => ⟨S7, .i32⟩
  | 53 => ⟨S7, .i32⟩
  | 54 => ⟨S1x7, .i32⟩
  | 55 => ⟨S32x7, .i32⟩
  | 56 => ⟨S32x7, .i32⟩
  | 57 => ⟨S32x7, .i32⟩
  | 58 => ⟨S_, .i32⟩
  | 59 => ⟨S32x7, .i32⟩
  | 60 => ⟨S32x7, .i32⟩
  | 61 => ⟨S_, .i32⟩
  | 62 => ⟨S32x7, .i32⟩
  | 63 => ⟨S32x7, .i32⟩
  | 64 => ⟨S_, .i32⟩
  | 65 => ⟨S_, .i32⟩
  | 66 => ⟨S32x7, .i32⟩
  | 67 => ⟨S32x7, .i32⟩
  | 68 => ⟨S32x7, .i32⟩
  | 69 => ⟨S_, .i32⟩
  | 70 => ⟨S32x7, .i32⟩
  | 71 => ⟨S32x7, .i1⟩
  | 72 => ⟨S32x7, .i32⟩
  | 73 => ⟨S32x7, .i32⟩
  | 74 => ⟨S_, .i32⟩
  | 75 => ⟨S32x7, .i32⟩
  | 76 => ⟨S32x7, .i1⟩
  | 77 => ⟨S32x7, .i1⟩
  | 78 => ⟨S_, .i32⟩
  | 79 => ⟨S32x7, .i32⟩
  | 80 => ⟨S32x7, .i32⟩
  | 81 => ⟨S32x7, .i32⟩
  | 82 => ⟨S32x7, .i32⟩
  | 83 => ⟨S32x7, .i32⟩
  | 84 => ⟨S96, .i32⟩
  | 85 => ⟨S32x7x1, .i32⟩
  | 86 => ⟨S1x1x96, .i32⟩
  | 87 => ⟨S32x7x96, .i32⟩
  | 88 => ⟨S32x7x96, .i32⟩
  | 89 => ⟨S32x7x96, .i1⟩
  | 90 => ⟨S32x7x1, .i32⟩
  | 91 => ⟨S1x1x96, .i32⟩
  | 92 => ⟨S32x7x96, .i32⟩
  | 93 => ⟨S32x7x96, .i32⟩
  | 94 => ⟨S32x7x96, .i1⟩
  | 95 => ⟨S32x7x96, .i1⟩
  | 96 => ⟨S32x1x1x1x1x7x96, .i1⟩
  | 97 => ⟨S32x32x8x16x96x1x96, .f32⟩
  | 98 => ⟨S_, .f32⟩
  | 99 => ⟨S32x32x8x16x96x7x96, .i1⟩
  | 100 => ⟨S32x32x8x16x96x7x96, .f32⟩
  | 101 => ⟨S32x32x8x16x96x7x96, .f32⟩
  | 102 => ⟨S32x32x8x16x96x7x96, .f32⟩
  | 103 => ⟨S_, .f32⟩
  | 104 => ⟨S32x32x8x16x96x7, .f32⟩
  | 105 => ⟨S32, .i32⟩
  | 106 => ⟨S32x1, .i32⟩
  | 107 => ⟨S7, .i32⟩
  | 108 => ⟨S32x1, .i32⟩
  | 109 => ⟨S1x7, .i32⟩
  | 110 => ⟨S32x7, .i32⟩
  | 111 => ⟨S32x7, .i32⟩
  | 112 => ⟨S32x7, .i32⟩
  | 113 => ⟨S_, .i32⟩
  | 114 => ⟨S_, .i32⟩
  | 115 => ⟨S32x7, .i32⟩
  | 116 => ⟨S32x7, .i32⟩
  | 117 => ⟨S32x7, .i32⟩
  | 118 => ⟨S_, .i32⟩
  | 119 => ⟨S32x7, .i32⟩
  | 120 => ⟨S32x7, .i1⟩
  | 121 => ⟨S32x7, .i32⟩
  | 122 => ⟨S32x7, .i32⟩
  | 123 => ⟨S_, .i32⟩
  | 124 => ⟨S32x7, .i32⟩
  | 125 => ⟨S32x7, .i1⟩
  | 126 => ⟨S32x7, .i1⟩
  | 127 => ⟨S_, .i32⟩
  | _ => ⟨S2x32x8x16x96x96, .f32⟩

abbrev hbmTy0_1 (i : Nat) : BufTy := match i % 128 with
  | 0 => ⟨S32x7, .i32⟩
  | 1 => ⟨S32x7, .i32⟩
  | 2 => ⟨S32x7, .i32⟩
  | 3 => ⟨S32x7, .i32⟩
  | 4 => ⟨S32x7, .i32⟩
  | 5 => ⟨S32x1, .i32⟩
  | 6 => ⟨S_, .i32⟩
  | 7 => ⟨S7, .i32⟩
  | 8 => ⟨S7, .i32⟩
  | 9 => ⟨S1x7, .i32⟩
  | 10 => ⟨S32x7, .i32⟩
  | 11 => ⟨S32x7, .i32⟩
  | 12 => ⟨S32x7, .i32⟩
  | 13 => ⟨S_, .i32⟩
  | 14 => ⟨S32x7, .i32⟩
  | 15 => ⟨S32x7, .i32⟩
  | 16 => ⟨S_, .i32⟩
  | 17 => ⟨S32x7, .i32⟩
  | 18 => ⟨S32x7, .i32⟩
  | 19 => ⟨S_, .i32⟩
  | 20 => ⟨S_, .i32⟩
  | 21 => ⟨S32x7, .i32⟩
  | 22 => ⟨S32x7, .i32⟩
  | 23 => ⟨S32x7, .i32⟩
  | 24 => ⟨S_, .i32⟩
  | 25 => ⟨S32x7, .i32⟩
  | 26 => ⟨S32x7, .i1⟩
  | 27 => ⟨S32x7, .i32⟩
  | 28 => ⟨S32x7, .i32⟩
  | 29 => ⟨S_, .i32⟩
  | 30 => ⟨S32x7, .i32⟩
  | 31 => ⟨S32x7, .i1⟩
  | 32 => ⟨S32x7, .i1⟩
  | 33 => ⟨S_, .i32⟩
  | 34 => ⟨S32x7, .i32⟩
  | 35 => ⟨S32x7, .i32⟩
  | 36 => ⟨S32x7, .i32⟩
  | 37 => ⟨S32x7, .i32⟩
  | 38 => ⟨S32x7, .i32⟩
  | 39 => ⟨S96, .i32⟩
  | 40 => ⟨S32x7x1, .i32⟩
  | 41 => ⟨S1x1x96, .i32⟩
  | 42 => ⟨S32x7x96, .i32⟩
  | 43 => ⟨S32x7x96, .i32⟩
  | 44 => ⟨S32x7x96, .i1⟩
  | 45 => ⟨S32x7x1, .i32⟩
  | 46 => ⟨S1x1x96, .i32⟩
  | 47 => ⟨S32x7x96, .i32⟩
  | 48 => ⟨S32x7x96, .i32⟩
  | 49 => ⟨S32x7x96, .i1⟩
  | 50 => ⟨S32x7x96, .i1⟩
  | 51 => ⟨S32x1x1x1x7x96x1, .i1⟩
  | 52 => ⟨S32x32x8x16x1x96x7, .f32⟩
  | 53 => ⟨S_, .f32⟩
  | 54 => ⟨S32x32x8x16x7x96x7, .i1⟩
  | 55 => ⟨S32x32x8x16x7x96x7, .f32⟩
  | 56 => ⟨S32x32x8x16x7x96x7, .f32⟩
  | 57 => ⟨S32x32x8x16x7x96x7, .f32⟩
  | 58 => ⟨S_, .f32⟩
  | 59 => ⟨S32x32x8x16x7x7, .f32⟩
  | 60 => ⟨S32, .i32⟩
  | 61 => ⟨S32x1, .i32⟩
  | 62 => ⟨S4, .i32⟩
  | 63 => ⟨S32x1, .i32⟩
  | 64 => ⟨S1x4, .i32⟩
  | 65 => ⟨S32x4, .i32⟩
  | 66 => ⟨S32x4, .i32⟩
  | 67 => ⟨S32x4, .i32⟩
  | 68 => ⟨S_, .i32⟩
  | 69 => ⟨S_, .i32⟩
  | 70 => ⟨S32x4, .i32⟩
  | 71 => ⟨S32x4, .i32⟩
  | 72 => ⟨S32x4, .i32⟩
  | 73 => ⟨S_, .i32⟩
  | 74 => ⟨S32x4, .i32⟩
  | 75 => ⟨S32x4, .i1⟩
  | 76 => ⟨S32x4, .i32⟩
  | 77 => ⟨S32x4, .i32⟩
  | 78 => ⟨S_, .i32⟩
  | 79 => ⟨S32x4, .i32⟩
  | 80 => ⟨S32x4, .i1⟩
  | 81 => ⟨S32x4, .i1⟩
  | 82 => ⟨S_, .i32⟩
  | 83 => ⟨S32x4, .i32⟩
  | 84 => ⟨S32x4, .i32⟩
  | 85 => ⟨S32x4, .i32⟩
  | 86 => ⟨S32x4, .i32⟩
  | 87 => ⟨S32x4, .i32⟩
  | 88 => ⟨S32x1, .i32⟩
  | 89 => ⟨S_, .i32⟩
  | 90 => ⟨S4, .i32⟩
  | 91 => ⟨S4, .i32⟩
  | 92 => ⟨S1x4, .i32⟩
  | 93 => ⟨S32x4, .i32⟩
  | 94 => ⟨S32x4, .i32⟩
  | 95 => ⟨S32x4, .i32⟩
  | 96 => ⟨S_, .i32⟩
  | 97 => ⟨S32x4, .i32⟩
  | 98 => ⟨S32x4, .i32⟩
  | 99 => ⟨S_, .i32⟩
  | 100 => ⟨S32x4, .i32⟩
  | 101 => ⟨S32x4, .i32⟩
  | 102 => ⟨S_, .i32⟩
  | 103 => ⟨S_, .i32⟩
  | 104 => ⟨S32x4, .i32⟩
  | 105 => ⟨S32x4, .i32⟩
  | 106 => ⟨S32x4, .i32⟩
  | 107 => ⟨S_, .i32⟩
  | 108 => ⟨S32x4, .i32⟩
  | 109 => ⟨S32x4, .i1⟩
  | 110 => ⟨S32x4, .i32⟩
  | 111 => ⟨S32x4, .i32⟩
  | 112 => ⟨S_, .i32⟩
  | 113 => ⟨S32x4, .i32⟩
  | 114 => ⟨S32x4, .i1⟩
  | 115 => ⟨S32x4, .i1⟩
  | 116 => ⟨S_, .i32⟩
  | 117 => ⟨S32x4, .i32⟩
  | 118 => ⟨S32x4, .i32⟩
  | 119 => ⟨S32x4, .i32⟩
  | 120 => ⟨S32x4, .i32⟩
  | 121 => ⟨S32x4, .i32⟩
  | 122 => ⟨S16, .i32⟩
  | 123 => ⟨S32x4x1, .i32⟩
  | 124 => ⟨S1x1x16, .i32⟩
  | 125 => ⟨S32x4x16, .i32⟩
  | 126 => ⟨S32x4x16, .i32⟩
  | 127 => ⟨S32x4x16, .i1⟩
  | _ => ⟨S2x32x8x16x96x96, .f32⟩

abbrev hbmTy0_2 (i : Nat) : BufTy := match i % 128 with
  | 0 => ⟨S32x4x1, .i32⟩
  | 1 => ⟨S1x1x16, .i32⟩
  | 2 => ⟨S32x4x16, .i32⟩
  | 3 => ⟨S32x4x16, .i32⟩
  | 4 => ⟨S32x4x16, .i1⟩
  | 5 => ⟨S32x4x16, .i1⟩
  | 6 => ⟨S32x1x1x4x16x1x1, .i1⟩
  | 7 => ⟨S32x32x8x1x16x7x7, .f32⟩
  | 8 => ⟨S_, .f32⟩
  | 9 => ⟨S32x32x8x4x16x7x7, .i1⟩
  | 10 => ⟨S32x32x8x4x16x7x7, .f32⟩
  | 11 => ⟨S32x32x8x4x16x7x7, .f32⟩
  | 12 => ⟨S32x32x8x4x16x7x7, .f32⟩
  | 13 => ⟨S_, .f32⟩
  | 14 => ⟨S32x32x8x4x7x7, .f32⟩
  | 15 => ⟨S32, .i32⟩
  | 16 => ⟨S32x1, .i32⟩
  | 17 => ⟨S4, .i32⟩
  | 18 => ⟨S32x1, .i32⟩
  | 19 => ⟨S1x4, .i32⟩
  | 20 => ⟨S32x4, .i32⟩
  | 21 => ⟨S32x4, .i32⟩
  | 22 => ⟨S32x4, .i32⟩
  | 23 => ⟨S_, .i32⟩
  | 24 => ⟨S_, .i32⟩
  | 25 => ⟨S32x4, .i32⟩
  | 26 => ⟨S32x4, .i32⟩
  | 27 => ⟨S32x4, .i32⟩
  | 28 => ⟨S_, .i32⟩
  | 29 => ⟨S32x4, .i32⟩
  | 30 => ⟨S32x4, .i1⟩
  | 31 => ⟨S32x4, .i32⟩
  | 32 => ⟨S32x4, .i32⟩
  | 33 => ⟨S_, .i32⟩
  | 34 => ⟨S32x4, .i32⟩
  | 35 => ⟨S32x4, .i1⟩
  | 36 => ⟨S32x4, .i1⟩
  | 37 => ⟨S_, .i32⟩
  | 38 => ⟨S32x4, .i32⟩
  | 39 => ⟨S32x4, .i32⟩
  | 40 => ⟨S32x4, .i32⟩
  | 41 => ⟨S32x4, .i32⟩
  | 42 => ⟨S32x4, .i32⟩
  | 43 => ⟨S32x1, .i32⟩
  | 44 => ⟨S_, .i32⟩
  | 45 => ⟨S4, .i32⟩
  | 46 => ⟨S4, .i32⟩
  | 47 => ⟨S1x4, .i32⟩
  | 48 => ⟨S32x4, .i32⟩
  | 49 => ⟨S32x4, .i32⟩
  | 50 => ⟨S32x4, .i32⟩
  | 51 => ⟨S_, .i32⟩
  | 52 => ⟨S32x4, .i32⟩
  | 53 => ⟨S32x4, .i32⟩
  | 54 => ⟨S_, .i32⟩
  | 55 => ⟨S32x4, .i32⟩
  | 56 => ⟨S32x4, .i32⟩
  | 57 => ⟨S_, .i32⟩
  | 58 => ⟨S_, .i32⟩
  | 59 => ⟨S32x4, .i32⟩
  | 60 => ⟨S32x4, .i32⟩
  | 61 => ⟨S32x4, .i32⟩
  | 62 => ⟨S_, .i32⟩
  | 63 => ⟨S32x4, .i32⟩
  | 64 => ⟨S32x4, .i1⟩
  | 65 => ⟨S32x4, .i32⟩
  | 66 => ⟨S32x4, .i32⟩
  | 67 => ⟨S_, .i32⟩
  | 68 => ⟨S32x4, .i32⟩
  | 69 => ⟨S32x4, .i1⟩
  | 70 => ⟨S32x4, .i1⟩
  | 71 => ⟨S_, .i32⟩
  | 72 => ⟨S32x4, .i32⟩
  | 73 => ⟨S32x4, .i32⟩
  | 74 => ⟨S32x4, .i32⟩
  | 75 => ⟨S32x4, .i32⟩
  | 76 => ⟨S32x4, .i32⟩
  | 77 => ⟨S8, .i32⟩
  | 78 => ⟨S32x4x1, .i32⟩
  | 79 => ⟨S1x1x8, .i32⟩
  | 80 => ⟨S32x4x8, .i32⟩
  | 81 => ⟨S32x4x8, .i32⟩
  | 82 => ⟨S32x4x8, .i1⟩
  | 83 => ⟨S32x4x1, .i32⟩
  | 84 => ⟨S1x1x8, .i32⟩
  | 85 => ⟨S32x4x8, .i32⟩
  | 86 => ⟨S32x4x8, .i32⟩
  | 87 => ⟨S32x4x8, .i1⟩
  | 88 => ⟨S32x4x8, .i1⟩
  | 89 => ⟨S32x1x4x8x1x1x1, .i1⟩
  | 90 => ⟨S32x32x1x8x4x7x7, .f32⟩
  | 91 => ⟨S_, .f32⟩
  | 92 => ⟨S32x32x4x8x4x7x7, .i1⟩
  | 93 => ⟨S32x32x4x8x4x7x7, .f32⟩
  | 94 => ⟨S32x32x4x8x4x7x7, .f32⟩
  | 95 => ⟨S32x32x4x8x4x7x7, .f32⟩
  | 96 => ⟨S_, .f32⟩
  | 97 => ⟨S32x32x4x4x7x7, .f32⟩
  | _ => ⟨S2x32x8x16x96x96, .f32⟩

abbrev hbmTy (i : Nat) : BufTy := match i / 128 with
  | 0 => hbmTy0_0 i
  | 1 => hbmTy0_1 i
  | 2 => hbmTy0_2 i
  | _ => ⟨S2x32x8x16x96x96, .f32⟩

abbrev bufTy : (tb : Table) → Fin (tcTables nBuf tb) → BufTy
  | .hbm, ⟨i, _⟩ => hbmTy i
  | _, _ => ⟨S2x32x8x16x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_1 : Ref sig .tc := ⟨.hbm, 58, rfl⟩
abbrev main_v38 : Ref sig .tc := ⟨.hbm, 59, rfl⟩
abbrev main_v39 : Ref sig .tc := ⟨.hbm, 60, rfl⟩
abbrev main_c_2 : Ref sig .tc := ⟨.hbm, 61, rfl⟩
abbrev main_v40 : Ref sig .tc := ⟨.hbm, 62, rfl⟩
abbrev main_v41 : Ref sig .tc := ⟨.hbm, 63, rfl⟩
abbrev main_c_3 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_c : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_0 : Ref sig .tc := ⟨.hbm, 78, rfl⟩
abbrev main_call1_v12 : Ref sig .tc := ⟨.hbm, 79, rfl⟩
abbrev main_call1_v13 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v59 : Ref sig .tc := ⟨.hbm, 102, rfl⟩
abbrev main_cst_4 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_c_5 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_c : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_c_0 : Ref sig .tc := ⟨.hbm, 127, rfl⟩
abbrev main_call3_v12 : Ref sig .tc := ⟨.hbm, 128, rfl⟩
abbrev main_call3_v13 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_c_6 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_c_7 : Ref sig .tc := ⟨.hbm, 141, rfl⟩
abbrev main_v79 : Ref sig .tc := ⟨.hbm, 142, rfl⟩
abbrev main_v80 : Ref sig .tc := ⟨.hbm, 143, rfl⟩
abbrev main_c_8 : Ref sig .tc := ⟨.hbm, 144, rfl⟩
abbrev main_v81 : Ref sig .tc := ⟨.hbm, 145, rfl⟩
abbrev main_v82 : Ref sig .tc := ⟨.hbm, 146, rfl⟩
abbrev main_c_9 : Ref sig .tc := ⟨.hbm, 147, rfl⟩
abbrev main_call4_v0 : Ref sig .tc := ⟨.hbm, 148, rfl⟩
abbrev main_call4_v1 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_call4_v5 : Ref sig .tc := ⟨.hbm, 153, rfl⟩
abbrev main_call4_v6 : Ref sig .tc := ⟨.hbm, 154, rfl⟩
abbrev main_call4_v7 : Ref sig .tc := ⟨.hbm, 155, rfl⟩
abbrev main_call4_v8 : Ref sig .tc := ⟨.hbm, 156, rfl⟩
abbrev main_call4_c : Ref sig .tc := ⟨.hbm, 157, rfl⟩
abbrev main_call4_v9 : Ref sig .tc := ⟨.hbm, 158, rfl⟩
abbrev main_call4_v10 : Ref sig .tc := ⟨.hbm, 159, rfl⟩
abbrev main_call4_v11 : Ref sig .tc := ⟨.hbm, 160, rfl⟩
abbrev main_call4_c_0 : Ref sig .tc := ⟨.hbm, 161, rfl⟩
abbrev main_call4_v12 : Ref sig .tc := ⟨.hbm, 162, rfl⟩
abbrev main_call4_v13 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_cst_10 : Ref sig .tc := ⟨.hbm, 181, rfl⟩
abbrev main_call5_v0 : Ref sig .tc := ⟨.hbm, 182, rfl⟩
abbrev main_call5_v1 : Ref sig .tc := ⟨.hbm, 183, rfl⟩
abbrev main_call5_v2 : Ref sig .tc := ⟨.hbm, 184, rfl⟩
abbrev main_v100 : Ref sig .tc := ⟨.hbm, 185, rfl⟩
abbrev main_cst_11 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_c_12 : Ref sig .tc := ⟨.hbm, 196, rfl⟩
abbrev main_call6_v0 : Ref sig .tc := ⟨.hbm, 197, rfl⟩
abbrev main_call6_v1 : Ref sig .tc := ⟨.hbm, 198, rfl⟩
abbrev main_call6_v2 : Ref sig .tc := ⟨.hbm, 199, rfl⟩
abbrev main_call6_v3 : Ref sig .tc := ⟨.hbm, 200, rfl⟩
abbrev main_call6_v4 : Ref sig .tc := ⟨.hbm, 201, rfl⟩
abbrev main_call6_v5 : Ref sig .tc := ⟨.hbm, 202, rfl⟩
abbrev main_call6_v6 : Ref sig .tc := ⟨.hbm, 203, rfl⟩
abbrev main_call6_v7 : Ref sig .tc := ⟨.hbm, 204, rfl⟩
abbrev main_call6_v8 : Ref sig .tc := ⟨.hbm, 205, rfl⟩
abbrev main_call6_c : Ref sig .tc := ⟨.hbm, 206, rfl⟩
abbrev main_call6_v9 : Ref sig .tc := ⟨.hbm, 207, rfl⟩
abbrev main_call6_v10 : Ref sig .tc := ⟨.hbm, 208, rfl⟩
abbrev main_call6_v11 : Ref sig .tc := ⟨.hbm, 209, rfl⟩
abbrev main_call6_c_0 : Ref sig .tc := ⟨.hbm, 210, rfl⟩
abbrev main_call6_v12 : Ref sig .tc := ⟨.hbm, 211, rfl⟩
abbrev main_call6_v13 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_c_13 : Ref sig .tc := ⟨.hbm, 217, rfl⟩
abbrev main_v114 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_c_14 : Ref sig .tc := ⟨.hbm, 224, rfl⟩
abbrev main_v120 : Ref sig .tc := ⟨.hbm, 225, rfl⟩
abbrev main_v121 : Ref sig .tc := ⟨.hbm, 226, rfl⟩
abbrev main_c_15 : Ref sig .tc := ⟨.hbm, 227, rfl⟩
abbrev main_v122 : Ref sig .tc := ⟨.hbm, 228, rfl⟩
abbrev main_v123 : Ref sig .tc := ⟨.hbm, 229, rfl⟩
abbrev main_c_16 : Ref sig .tc := ⟨.hbm, 230, rfl⟩
abbrev main_call7_v0 : Ref sig .tc := ⟨.hbm, 231, rfl⟩
abbrev main_call7_v1 : Ref sig .tc := ⟨.hbm, 232, rfl⟩
abbrev main_call7_v2 : Ref sig .tc := ⟨.hbm, 233, rfl⟩
abbrev main_call7_v3 : Ref sig .tc := ⟨.hbm, 234, rfl⟩
abbrev main_call7_v4 : Ref sig .tc := ⟨.hbm, 235, rfl⟩
abbrev main_call7_v5 : Ref sig .tc := ⟨.hbm, 236, rfl⟩
abbrev main_call7_v6 : Ref sig .tc := ⟨.hbm, 237, rfl⟩
abbrev main_call7_v7 : Ref sig .tc := ⟨.hbm, 238, rfl⟩
abbrev main_call7_v8 : Ref sig .tc := ⟨.hbm, 239, rfl⟩
abbrev main_call7_c : Ref sig .tc := ⟨.hbm, 240, rfl⟩
abbrev main_call7_v9 : Ref sig .tc := ⟨.hbm, 241, rfl⟩
abbrev main_call7_v10 : Ref sig .tc := ⟨.hbm, 242, rfl⟩
abbrev main_call7_v11 : Ref sig .tc := ⟨.hbm, 243, rfl⟩
abbrev main_call7_c_0 : Ref sig .tc := ⟨.hbm, 244, rfl⟩
abbrev main_call7_v12 : Ref sig .tc := ⟨.hbm, 245, rfl⟩
abbrev main_call7_v13 : Ref sig .tc := ⟨.hbm, 246, rfl⟩
abbrev main_v124 : Ref sig .tc := ⟨.hbm, 247, rfl⟩
abbrev main_v125 : Ref sig .tc := ⟨.hbm, 248, rfl⟩
abbrev main_v126 : Ref sig .tc := ⟨.hbm, 249, rfl⟩
abbrev main_v127 : Ref sig .tc := ⟨.hbm, 250, rfl⟩
abbrev main_v128 : Ref sig .tc := ⟨.hbm, 251, rfl⟩
abbrev main_v129 : Ref sig .tc := ⟨.hbm, 252, rfl⟩
abbrev main_v130 : Ref sig .tc := ⟨.hbm, 253, rfl⟩
abbrev main_v131 : Ref sig .tc := ⟨.hbm, 254, rfl⟩
abbrev main_v132 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_v136 : Ref sig .tc := ⟨.hbm, 259, rfl⟩
abbrev main_v137 : Ref sig .tc := ⟨.hbm, 260, rfl⟩
abbrev main_v138 : Ref sig .tc := ⟨.hbm, 261, rfl⟩
abbrev main_v139 : Ref sig .tc := ⟨.hbm, 262, rfl⟩
abbrev main_v140 : Ref sig .tc := ⟨.hbm, 263, rfl⟩
abbrev main_cst_17 : Ref sig .tc := ⟨.hbm, 264, rfl⟩
abbrev main_call8_v0 : Ref sig .tc := ⟨.hbm, 265, rfl⟩
abbrev main_call8_v1 : Ref sig .tc := ⟨.hbm, 266, rfl⟩
abbrev main_call8_v2 : Ref sig .tc := ⟨.hbm, 267, rfl⟩
abbrev main_v141 : Ref sig .tc := ⟨.hbm, 268, rfl⟩
abbrev main_cst_18 : Ref sig .tc := ⟨.hbm, 269, rfl⟩
abbrev main_v142 : Ref sig .tc := ⟨.hbm, 270, rfl⟩
abbrev main_v143 : Ref sig .tc := ⟨.hbm, 271, rfl⟩
abbrev main_v144 : Ref sig .tc := ⟨.hbm, 272, rfl⟩
abbrev main_v145 : Ref sig .tc := ⟨.hbm, 273, rfl⟩
abbrev main_v146 : Ref sig .tc := ⟨.hbm, 274, rfl⟩
abbrev main_v147 : Ref sig .tc := ⟨.hbm, 275, rfl⟩
abbrev main_v148 : Ref sig .tc := ⟨.hbm, 276, rfl⟩
abbrev main_v149 : Ref sig .tc := ⟨.hbm, 277, rfl⟩
abbrev main_v150 : Ref sig .tc := ⟨.hbm, 278, rfl⟩
abbrev main_c_19 : Ref sig .tc := ⟨.hbm, 279, rfl⟩
abbrev main_call9_v0 : Ref sig .tc := ⟨.hbm, 280, rfl⟩
abbrev main_call9_v1 : Ref sig .tc := ⟨.hbm, 281, rfl⟩
abbrev main_call9_v2 : Ref sig .tc := ⟨.hbm, 282, rfl⟩
abbrev main_call9_v3 : Ref sig .tc := ⟨.hbm, 283, rfl⟩
abbrev main_call9_v4 : Ref sig .tc := ⟨.hbm, 284, rfl⟩
abbrev main_call9_v5 : Ref sig .tc := ⟨.hbm, 285, rfl⟩
abbrev main_call9_v6 : Ref sig .tc := ⟨.hbm, 286, rfl⟩
abbrev main_call9_v7 : Ref sig .tc := ⟨.hbm, 287, rfl⟩
abbrev main_call9_v8 : Ref sig .tc := ⟨.hbm, 288, rfl⟩
abbrev main_call9_c : Ref sig .tc := ⟨.hbm, 289, rfl⟩
abbrev main_call9_v9 : Ref sig .tc := ⟨.hbm, 290, rfl⟩
abbrev main_call9_v10 : Ref sig .tc := ⟨.hbm, 291, rfl⟩
abbrev main_call9_v11 : Ref sig .tc := ⟨.hbm, 292, rfl⟩
abbrev main_call9_c_0 : Ref sig .tc := ⟨.hbm, 293, rfl⟩
abbrev main_call9_v12 : Ref sig .tc := ⟨.hbm, 294, rfl⟩
abbrev main_call9_v13 : Ref sig .tc := ⟨.hbm, 295, rfl⟩
abbrev main_v151 : Ref sig .tc := ⟨.hbm, 296, rfl⟩
abbrev main_v152 : Ref sig .tc := ⟨.hbm, 297, rfl⟩
abbrev main_v153 : Ref sig .tc := ⟨.hbm, 298, rfl⟩
abbrev main_v154 : Ref sig .tc := ⟨.hbm, 299, rfl⟩
abbrev main_c_20 : Ref sig .tc := ⟨.hbm, 300, rfl⟩
abbrev main_v155 : Ref sig .tc := ⟨.hbm, 301, rfl⟩
abbrev main_v156 : Ref sig .tc := ⟨.hbm, 302, rfl⟩
abbrev main_v157 : Ref sig .tc := ⟨.hbm, 303, rfl⟩
abbrev main_v158 : Ref sig .tc := ⟨.hbm, 304, rfl⟩
abbrev main_v159 : Ref sig .tc := ⟨.hbm, 305, rfl⟩
abbrev main_v160 : Ref sig .tc := ⟨.hbm, 306, rfl⟩
abbrev main_c_21 : Ref sig .tc := ⟨.hbm, 307, rfl⟩
abbrev main_v161 : Ref sig .tc := ⟨.hbm, 308, rfl⟩
abbrev main_v162 : Ref sig .tc := ⟨.hbm, 309, rfl⟩
abbrev main_c_22 : Ref sig .tc := ⟨.hbm, 310, rfl⟩
abbrev main_v163 : Ref sig .tc := ⟨.hbm, 311, rfl⟩
abbrev main_v164 : Ref sig .tc := ⟨.hbm, 312, rfl⟩
abbrev main_c_23 : Ref sig .tc := ⟨.hbm, 313, rfl⟩
abbrev main_call10_v0 : Ref sig .tc := ⟨.hbm, 314, rfl⟩
abbrev main_call10_v1 : Ref sig .tc := ⟨.hbm, 315, rfl⟩
abbrev main_call10_v2 : Ref sig .tc := ⟨.hbm, 316, rfl⟩
abbrev main_call10_v3 : Ref sig .tc := ⟨.hbm, 317, rfl⟩
abbrev main_call10_v4 : Ref sig .tc := ⟨.hbm, 318, rfl⟩
abbrev main_call10_v5 : Ref sig .tc := ⟨.hbm, 319, rfl⟩
abbrev main_call10_v6 : Ref sig .tc := ⟨.hbm, 320, rfl⟩
abbrev main_call10_v7 : Ref sig .tc := ⟨.hbm, 321, rfl⟩
abbrev main_call10_v8 : Ref sig .tc := ⟨.hbm, 322, rfl⟩
abbrev main_call10_c : Ref sig .tc := ⟨.hbm, 323, rfl⟩
abbrev main_call10_v9 : Ref sig .tc := ⟨.hbm, 324, rfl⟩
abbrev main_call10_v10 : Ref sig .tc := ⟨.hbm, 325, rfl⟩
abbrev main_call10_v11 : Ref sig .tc := ⟨.hbm, 326, rfl⟩
abbrev main_call10_c_0 : Ref sig .tc := ⟨.hbm, 327, rfl⟩
abbrev main_call10_v12 : Ref sig .tc := ⟨.hbm, 328, rfl⟩
abbrev main_call10_v13 : Ref sig .tc := ⟨.hbm, 329, rfl⟩
abbrev main_v165 : Ref sig .tc := ⟨.hbm, 330, rfl⟩
abbrev main_v166 : Ref sig .tc := ⟨.hbm, 331, rfl⟩
abbrev main_v167 : Ref sig .tc := ⟨.hbm, 332, rfl⟩
abbrev main_v168 : Ref sig .tc := ⟨.hbm, 333, rfl⟩
abbrev main_v169 : Ref sig .tc := ⟨.hbm, 334, rfl⟩
abbrev main_v170 : Ref sig .tc := ⟨.hbm, 335, rfl⟩
abbrev main_v171 : Ref sig .tc := ⟨.hbm, 336, rfl⟩
abbrev main_v172 : Ref sig .tc := ⟨.hbm, 337, rfl⟩
abbrev main_v173 : Ref sig .tc := ⟨.hbm, 338, rfl⟩
abbrev main_v174 : Ref sig .tc := ⟨.hbm, 339, rfl⟩
abbrev main_v175 : Ref sig .tc := ⟨.hbm, 340, rfl⟩
abbrev main_v176 : Ref sig .tc := ⟨.hbm, 341, rfl⟩
abbrev main_v177 : Ref sig .tc := ⟨.hbm, 342, rfl⟩
abbrev main_v178 : Ref sig .tc := ⟨.hbm, 343, rfl⟩
abbrev main_v179 : Ref sig .tc := ⟨.hbm, 344, rfl⟩
abbrev main_v180 : Ref sig .tc := ⟨.hbm, 345, rfl⟩
abbrev main_v181 : Ref sig .tc := ⟨.hbm, 346, rfl⟩
abbrev main_cst_24 : Ref sig .tc := ⟨.hbm, 347, rfl⟩
abbrev main_call11_v0 : Ref sig .tc := ⟨.hbm, 348, rfl⟩
abbrev main_call11_v1 : Ref sig .tc := ⟨.hbm, 349, rfl⟩
abbrev main_call11_v2 : Ref sig .tc := ⟨.hbm, 350, rfl⟩
abbrev main_v182 : Ref sig .tc := ⟨.hbm, 351, rfl⟩
abbrev main_cst_25 : Ref sig .tc := ⟨.hbm, 352, rfl⟩
abbrev main_v183 : Ref sig .tc := ⟨.hbm, 353, rfl⟩

abbrev nD : Nat := 1
abbrev τ : Topo := Topo.v7x

variable {F : FTy → Type} [FloatOps F]
-- ==== Proof.Box.Words.lean ====
/-
  Arithmetic on the 32-bit words the kernel and the reference compute bin edges with: each word holds a small natural,
  and floor division, products, sums, minima and comparisons of such words are those of the naturals.
-/
module

public import Idealize.ShloMosaic.Lib.Tactic
public import Idealize.ShloMosaic.Lib.Routing.Words
public import Idealize.ShloMosaic.Lib.WordArith

@[expose] public section

namespace Cert.Roi

open Idealize.ShloMosaic Idealize.ShloMosaic.Routing

/-- The word holding a natural. -/
abbrev w32 (n : ℕ) : BitVec 32 := BitVec.ofNat 32 n

/-- The sign of a scalar word, as the kernel prints it. -/
abbrev sgnW (x : BitVec 32) : BitVec 32 := Scalar.subi (Scalar.extui (Scalar.cmpi .sgt x 0#32)) (Scalar.extui (Scalar.cmpi .slt x 0#32))

/-- Floor division of a scalar word by a scalar word, as the kernel prints it. -/
abbrev fdiv (x d : BitVec 32) : BitVec 32 :=
  Scalar.select (Scalar.andi (Scalar.cmpi .ne (sgnW x) (sgnW d)) (Scalar.cmpi .ne (Scalar.remsi x d) 0#32))
    (Scalar.subi (Scalar.divsi x d) 1#32) (Scalar.divsi x d)

theorem w32_toNat {n : ℕ} (h : n < 2 ^ 32) : (w32 n).toNat = n := by
  rw [BitVec.toNat_ofNat, Nat.mod_eq_of_lt h]

theorem toInt_w32 {n : ℕ} (h : n < 2 ^ 31) : (w32 n).toInt = n := by
  rw [BitVec.toInt_eq_toNat_cond, w32_toNat (by omega)]; simp only [ite_eq_left_iff]; omega

/-- A nonnegative word's sign is one, or zero at zero. -/
theorem sgnW_w32 {n : ℕ} (h : n < 2 ^ 31) : sgnW (w32 n) = if n = 0 then 0#32 else 1#32 := by
  have hi := toInt_w32 h
  have h1 : (w32 n).slt 0#32 = false := by
    rw [BitVec.slt, hi]; simp
  have h2 : (0#32).slt (w32 n) = decide (0 < n) := by
    rw [BitVec.slt, hi]; simp
  show Scalar.subi (Scalar.extui (BitVec.ofBool ((0#32).slt (w32 n)))) (Scalar.extui (BitVec.ofBool ((w32 n).slt 0#32))) = _
  rw [h1, h2]
  rcases Nat.eq_zero_or_pos n with h0 | h0
  · subst h0; decide
  · rw [if_neg (by omega), decide_eq_true h0]; decide

/-- Floor division of naturals below `2 ^ 31` is the natural quotient. -/
theorem fdiv_w32 {a b : ℕ} (ha : a < 2 ^ 31) (h0 : 0 < b) (hb : b < 2 ^ 31) : fdiv (w32 a) (w32 b) = w32 (a / b) := by
  show Scalar.select _ (Scalar.subi (IntOp.divsi .scalar (w32 a) (w32 b)) 1#32) (IntOp.divsi .scalar (w32 a) (w32 b)) = _
  rw [divsi_word .scalar ha h0 hb, sgnW_w32 ha, sgnW_w32 hb, if_neg (by omega : ¬ b = 0)]
  show Scalar.select (Scalar.andi _ (Scalar.cmpi .ne (IntOp.remsi .scalar (w32 a) (w32 b)) 0#32)) _ _ = _
  rw [remsi_word .scalar ha h0 hb]
  rcases Nat.eq_zero_or_pos a with h | h
  · subst h
    rw [Nat.zero_mod, Nat.zero_div]
    rfl
  · rw [if_neg (by omega)]
    have e : Scalar.cmpi .ne 1#32 1#32 = 0#1 := by decide
    rw [e]
    show Scalar.select (0#1 &&& _) _ _ = _
    rw [BitVec.zero_and]
    rfl

theorem addi_w32 (a b : ℕ) : IntOp.addi (w32 a) (w32 b) = w32 (a + b) := by
  show w32 a + w32 b = _
  rw [← BitVec.ofNat_add]

theorem muli_w32 (a b : ℕ) : IntOp.muli (w32 a) (w32 b) = w32 (a * b) := by
  show w32 a * w32 b = _
  rw [← BitVec.ofNat_mul]

theorem subi_w32 {a b : ℕ} (h : b ≤ a) (ha : a < 2 ^ 32) : IntOp.subi (w32 a) (w32 b) = w32 (a - b) := by
  apply BitVec.eq_of_toNat_eq
  show (w32 a - w32 b).toNat = _
  rw [BitVec.toNat_sub, w32_toNat ha, w32_toNat (by omega), w32_toNat (by omega)]
  omega

theorem minsi_w32 {a b : ℕ} (ha : a < 2 ^ 31) (hb : b < 2 ^ 31) : IntOp.minsi (w32 a) (w32 b) = w32 (min a b) := by
  show (if (w32 a).slt (w32 b) then w32 a else w32 b) = _
  rw [BitVec.slt, toInt_w32 ha, toInt_w32 hb]
  rcases lt_or_ge a b with h | h
  · rw [if_pos (by simpa using h), min_eq_left h.le]
  · rw [if_neg (by simpa using h), min_eq_right h]

theorem cmpi_sge_w32 {a b : ℕ} (ha : a < 2 ^ 31) (hb : b < 2 ^ 31) : IntOp.cmpi .sge (w32 a) (w32 b) = BitVec.ofBool (decide (b ≤ a)) := by
  show BitVec.ofBool ((w32 b).sle (w32 a)) = _
  rw [BitVec.sle, toInt_w32 ha, toInt_w32 hb]
  simp

theorem cmpi_slt_w32 {a b : ℕ} (ha : a < 2 ^ 31) (hb : b < 2 ^ 31) : IntOp.cmpi .slt (w32 a) (w32 b) = BitVec.ofBool (decide (a < b)) := by
  show BitVec.ofBool ((w32 a).slt (w32 b)) = _
  rw [BitVec.slt, toInt_w32 ha, toInt_w32 hb]
  simp

/-- Whether a word lies in a bin, as a mask bit: at least the first edge and below the second. -/
theorem inBin_w32 {p a b : ℕ} (hp : p < 2 ^ 31) (ha : a < 2 ^ 31) (hb : b < 2 ^ 31) :
    IntOp.andi (IntOp.cmpi .sge (w32 p) (w32 a)) (IntOp.cmpi .slt (w32 p) (w32 b)) = BitVec.ofBool (decide (a ≤ p ∧ p < b)) := by
  rw [cmpi_sge_w32 hp ha, cmpi_slt_w32 hp hb, WordArith.andi_ofBool, Bool.decide_and]

/-! ## Bin edges -/

/-- Where bin `i` of `o` over an extent `S` begins. -/
abbrev binLo (o S i : ℕ) : ℕ := i * S / o
/-- Where bin `i` of `o` over an extent `S` ends. -/
abbrev binHi (o S i : ℕ) : ℕ := ((i + 1) * S + (o - 1)) / o

theorem fdiv_lo {o S i : ℕ} (ho : 0 < o) (ho' : o < 2 ^ 31) (h : i * S < 2 ^ 31) :
    fdiv (IntOp.muli (w32 i) (w32 S)) (w32 o) = w32 (binLo o S i) := by
  rw [muli_w32, fdiv_w32 h ho ho']

theorem fdiv_hi {o S i : ℕ} (ho : 0 < o) (ho' : o < 2 ^ 31) (h : (i + 1) * S + o < 2 ^ 31) :
    fdiv (IntOp.subi (IntOp.addi (IntOp.muli (w32 (i + 1)) (w32 S)) (w32 o)) 1#32) (w32 o) = w32 (binHi o S i) := by
  rw [muli_w32, addi_w32, show (1#32 : BitVec 32) = w32 1 from rfl, subi_w32 (by omega) (by omega), fdiv_w32 (by omega) ho ho',
    Nat.add_sub_assoc (by omega)]

end Cert.Roi
-- ==== Proof.Box.Run.lean ====
/-
  One run of the box kernel's body on whole staging memrefs, with what it leaves in its output block named.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of boxes, as the body is handed it: the whole buffer. -/
abbrev tbM : Memref sig .tc .smem S2x16x8 .i32 := Memref.whole main_arg1
/-- It is the whole buffer. -/
abbrev htbM : tbM.IsWhole := Memref.isWhole_whole _

/-- The contents of a table memref's buffer on core `c`. -/
abbrev TbBuf (c : Dev nD) {S : Shape} {e : EltTy} (M : Memref sig .tc .smem S e) : Type := Buf (Elt F) (M.view.loc (c : Thread nD τ))
/-- The table's buffer held whole at `f`. -/
abbrev tbPt (c : Dev nD) {S : Shape} {e : EltTy} (M : Memref sig .tc .smem S e) (f : TbBuf (F := F) c M) : sProp 𝕄 :=
  M.view.loc (c : Thread nD τ) ↦{fullShare} f

/-- The word the body reads from the table `f` at the offsets `off`. -/
abbrev word (c : Dev nD) (f : TbBuf (F := F) c tbM) (off : Fin 3 → ℕ) (h : ∀ a, off a + S1x1x1.size a ≤ S2x16x8.size a) : Elt F .i32 :=
  tbM.view.readAt (Elt F) (Rect.unit (s := S2x16x8) off S1x1x1.size h).toLoadRect f (Shape.Idx.first (numel1_S1x1x1.symm ▸ Nat.one_pos))

set_option maxHeartbeats 4000000 in
/-- What the body's stores leave in the output's staging memref, as pieces (last first), with the proof that on whole
    memrefs the body runs to the continuation holding the input and the table as they were and the output with its
    pieces written; the scratch buffers end at contents nothing names. -/
noncomputable def boxRun (c : Dev nD) (i : grid1.Coords) (arg3 : Memref sig .tc .vmem S1x4x96x16x8x96 .f32) (harg3 : arg3.IsWhole) (arg4 : Memref sig .tc .vmem S1x8x4x4x7x7 .f32) (harg4 : arg4.IsWhole) (arg5 : Memref sig .tc .vmem S4x7x8x8x96 .f32) (harg5 : arg5.IsWhole) (arg6 : Memref sig .tc .vmem S4x4x7x8x7 .f32) (harg6 : arg6.IsWhole)
    (x0 : Vec F S1x4x96x16x8x96 .f32) (xt : TbBuf (F := F) c tbM)
    (hw2 : k1_chk2 (word c xt (k1_off1 i) (k1_off1_inb i)) (word c xt (k1_off4 i) (k1_off4_inb i)))
    (hw1 : k1_chk1 (word c xt (k1_off1 i) (k1_off1_inb i)) (word c xt (k1_off2 i) (k1_off2_inb i)) (word c xt (k1_off5 i) (k1_off5_inb i))) :
    { L : List (View.Piece (Elt F) S1x8x4x4x7x7 .f32) //
      ∀ (E : Set ℕ) (K : PUnit → sProp 𝕄),
        iprop(owns (c : Thread nD τ) arg3 fullShare x0 ∗ (∃ d, owns (c : Thread nD τ) arg4 fullShare d) ∗ (∃ d, owns (c : Thread nD τ) arg5 fullShare d) ∗ (∃ d, owns (c : Thread nD τ) arg6 fullShare d) ∗ tbPt c tbM xt
            ∗ (iprop(owns (c : Thread nD τ) arg3 fullShare x0 ∗ (∃ f, arg4.view.loc (c : Thread nD τ) ↦[arg4.view.set]{fullShare} arg4.view.writes (Elt F) f L) ∗ (∃ d, owns (c : Thread nD τ) arg5 fullShare d) ∗ (∃ d, owns (c : Thread nD τ) arg6 fullShare d) ∗ tbPt c tbM xt) -∗ K ⟨⟩))
          ⊢ wp frame (wpE (defs₀ (F := F)) Variants.none c none) E (cc1_roialign4d_box i tbM htbM arg3 harg3 arg4 harg4 arg5 harg5 arg6 harg6) K } := by
  refine ⟨?_, fun E K => ?run⟩
  case run =>
    simp only [cc1_roialign4d_box_eq_skeleton]; unfold cc1_roialign4d_box_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton]
    unfold owns
    iintro ⟨⟨%f0, %hf0, H0⟩, ⟨%d1, %f1, -, H1⟩, ⟨%ds0, %fs0, -, HS0⟩, ⟨%ds1, %fs1, -, HS1⟩, HT0, Hk⟩
    obtain rfl := harg3.eq_unread hf0
    sl_exec (disch := first | sl_exact hw2 | sl_exact hw1)
    sl_step
    iapply Hk
    isplitl [H0]
    · iexists _; isplitr; · ipureintro; exact harg3.read_unread _
      iexact H0
    isplitl [H1]
    · iexists _; iexact H1
    isplitl [HS0]
    · iexists _, _; isplitr; swap; · iexact HS0
      ipureintro; rfl
    isplitl [HS1]
    · iexists _, _; isplitr; swap; · iexact HS1
      ipureintro; rfl
    iexact HT0

end Cert.Roi

end

end
-- ==== Proof.Box.Data.lean ====
/-
  The box region's proof data at any entry contents and any table of boxes, and its body obligation.
-/
module

public import proofs.«01_k».proof.Proof.Box.Run

@[expose] public section

set_option maxRecDepth 16384

noncomputable section

namespace Cert.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table's contents, admissible for the box region whatever they are: no index map reads the table. -/
abbrev admT (T : pre1.Contents (Elt F)) : (pcfg1 (F := F)).Adm := ⟨T, trivial⟩

/-- The checks of the words the box body makes, at every point: the lower corner with the extents along depth and
    along height and width. -/
def Checked (T : pre1.Contents (Elt F)) : Prop :=
  ∀ (c : Dev nD) (i : grid1.Coords),
    k1_chk2 (word (F := F) c (T 0) (k1_off1 i) (k1_off1_inb i)) (word (F := F) c (T 0) (k1_off4 i) (k1_off4_inb i))
    ∧ k1_chk1 (word (F := F) c (T 0) (k1_off1 i) (k1_off1_inb i)) (word (F := F) c (T 0) (k1_off2 i) (k1_off2_inb i)) (word (F := F) c (T 0) (k1_off5 i) (k1_off5_inb i))

/-- The two scratch buffers the body is handed. -/
abbrev hsM : Memref sig .tc .vmem S4x7x8x8x96 .f32 := Memref.whole cc1_scratch0
abbrev ddM : Memref sig .tc .vmem S4x4x7x8x7 .f32 := Memref.whole cc1_scratch1

/-- The run's pieces tile the output block, so they cover it. -/
theorem box_cover (c : Dev nD) (i : grid1.Coords) (arg3 : Memref sig .tc .vmem S1x4x96x16x8x96 .f32) (harg3 : arg3.IsWhole) (arg4 : Memref sig .tc .vmem S1x8x4x4x7x7 .f32) (harg4 : arg4.IsWhole) (arg5 : Memref sig .tc .vmem S4x7x8x8x96 .f32) (harg5 : arg5.IsWhole) (arg6 : Memref sig .tc .vmem S4x4x7x8x7 .f32) (harg6 : arg6.IsWhole)
    (x0 : Vec F S1x4x96x16x8x96 .f32) (xt : TbBuf (F := F) c tbM) (hw2) (hw1) (y : S1x8x4x4x7x7.Idx) :
    ∃ pc ∈ (boxRun c i arg3 harg3 arg4 harg4 arg5 harg5 arg6 harg6 x0 xt hw2 hw1).1, y ∈ pc.1.set :=
  View.cover_of_tiledL (boxRun c i arg3 harg3 arg4 harg4 arg5 harg5 arg6 harg6 x0 xt hw2 hw1).1 S1x1x4x4x7x7.size (by sl_kernel_rfl) y

section

variable (V : (c : Dev nD) → (b : Ref sig .tc) → Buf (Elt F) ((c : Thread nD τ).loc b)) (T : pre1.Contents (Elt F)) (hT : Checked T)

/-- Each window's current staging memref at a point. -/
abbrev stIn (t : Fin (cfg1 (admT T)).N) : Memref sig .tc .vmem S1x4x96x16x8x96 .f32 := spec1_0.stage ((cfg1 (admT T)).slots t 0)
abbrev hstIn (t : Fin (cfg1 (admT T)).N) : (stIn T t).IsWhole := hstage1_0 (((cfg1 (admT T)).slots t 0).cast nbuf1_0)
abbrev stOut (t : Fin (cfg1 (admT T)).N) : Memref sig .tc .vmem S1x8x4x4x7x7 .f32 := spec1_1.stage ((cfg1 (admT T)).slots t 1)
abbrev hstOut (t : Fin (cfg1 (admT T)).N) : (stOut T t).IsWhole := hstage1_1 (((cfg1 (admT T)).slots t 1).cast nbuf1_1)

/-- The body as the pipeline calls it at a point. -/
def boxBody (t : Fin (cfg1 (F := F) (admT T)).N) : Prog (TpuEff nD τ sig (Elt F) Λ₀ .tc) PUnit :=
  cc1_roialign4d_box (grid1.coords t) tbM htbM (stIn T t) (hstIn T t) (stOut T t) (hstOut T t) hsM (Memref.isWhole_whole _) ddM (Memref.isWhole_whole _)

/-- A window's block at a point, read from its array at the region's entry. -/
def boxBlk (c : Dev nD) (w : Fin (cfg1 (admT T)).W) (t : Fin (cfg1 (admT T)).N) :
    (((cfg1 (admT T)).win w).xblock ((cfg1 (admT T)).grid.coords t)).Idx → Elt F ((cfg1 (admT T)).win w).elt :=
  (((cfg1 (admT T)).win w).blk t).view.read (Elt F) (V c (Pipeline.arrRef spec1 w))

/-- What the body leaves in the output's buffer at a point: the run's pieces laid over one another. -/
def boxOut (c : Dev nD) (t : Fin (cfg1 (admT T)).N) : Vec F S1x8x4x4x7x7 .f32 :=
  View.canon (boxRun c (grid1.coords t) (stIn T t) (hstIn T t) (stOut T t) (hstOut T t) hsM (Memref.isWhole_whole _) ddM (Memref.isWhole_whole _)
    (boxBlk V T c 0 t) (T 0) (hT c (grid1.coords t)).1 (hT c (grid1.coords t)).2).1

/-- The box region's proof data: arrays as found, each input block left in place, each output block at `boxOut`; the
    invariant holds the scratch buffers, the generator register and the table. -/
def boxDat (c : Dev nD) : Dat τ (Elt F) Unit ℕ (UR sig nD τ) ℕ (cfg1 (admT T)) c where
  A w := V c (Pipeline.arrRef spec1 w)
  after w t := match w with
    | ⟨0, _⟩ => boxBlk V T c 0 t
    | ⟨1, _⟩ => boxOut V T hT c t
  Φ _ := iprop(Pipeline.ΦA spec1 c ∗ tbPt c tbM (T 0))
  q _ := fullShare
  owed _ := 0

/-- The proof data's arrays are the entry contents. -/
theorem boxDat_A (c : Dev nD) (w : Fin (cfg1 (admT T)).W) : (boxDat V T hT c).A w = V c (Pipeline.arrRef spec1 w) := by
  dsimp only [boxDat]
/-- The body leaves its input block in place. -/
theorem boxDat_after_in (c : Dev nD) (t : Fin (cfg1 (admT T)).N) : (boxDat V T hT c).after 0 t = boxBlk V T c 0 t := by dsimp only [boxDat]; try rfl
/-- The body leaves `boxOut` in its output. -/
theorem boxDat_after_out (c : Dev nD) (t : Fin (cfg1 (admT T)).N) : (boxDat V T hT c).after 1 t = boxOut V T hT c t := by dsimp only [boxDat]; try rfl

/-- Before the body the input's buffer holds its block. -/
theorem boxDat_before (c : Dev nD) (t : Fin (cfg1 (admT T)).N) (d) : (boxDat V T hT c).before 0 t d = boxBlk V T c 0 t :=
  ((boxDat V T hT c).before_in_eq_fetched 0 rfl (fun _ => rfl) (fun _ _ _ => rfl)
    (fun t => by rw [boxDat_after_in]; unfold Dat.blockOf boxBlk; rw [boxDat_A]; try rfl) t d).trans
    (by unfold Dat.fetched Dat.blockOf boxBlk; rw [boxDat_A]; try rfl)

/-- The class invariant with the scratch buffers as memrefs: the pooling region's staging buffers, the two scratch
    buffers, the generator register. -/
theorem boxInv_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
          ∗ (∃ d, owns (c : Thread nD τ) hsM fullShare d) ∗ (∃ d, owns (c : Thread nD τ) ddM fullShare d)) ∗ (∃ r, prngReg c r)) := by
  unfold Pipeline.ΦA; rw [scopedRest1_eq]; simp only [hsM, ddM, owns_whole]; try rfl

/-- What the body is called with at a point. -/
def boxPre (c : Dev nD) (t : Fin (cfg1 (admT T)).N) : sProp 𝕄 :=
  iprop((boxDat V T hT c).Φ t.castSucc ∗ (boxDat V T hT c).owesAt () t.castSucc
    ∗ (∃ d, owns (c : Thread nD τ) (stIn T t) fullShare ((boxDat V T hT c).before 0 t d))
    ∗ (∃ d, owns (c : Thread nD τ) (stOut T t) fullShare ((boxDat V T hT c).before 1 t d)))

/-- What it returns. -/
def boxPost (c : Dev nD) (t : Fin (cfg1 (admT T)).N) : sProp 𝕄 :=
  iprop((boxDat V T hT c).Φ t.succ ∗ (boxDat V T hT c).owesAt () t.succ
    ∗ owns (c : Thread nD τ) (stIn T t) fullShare ((boxDat V T hT c).after 0 t)
    ∗ owns (c : Thread nD τ) (stOut T t) fullShare ((boxDat V T hT c).after 1 t))

/-- The body at any point. -/
theorem box_body (c : Dev nD) (t : Fin (cfg1 (admT T)).N) :
    boxPre V T hT c t ⊢ wp frame (wpE (defs₀ (F := F)) Variants.none c none) Set.univ (boxBody T t) (fun _ => boxPost V T hT c t) := by
  unfold boxPre boxPost boxBody
  simp only [boxDat_before]
  rw [show (boxDat V T hT c).Φ t.succ = iprop(Pipeline.ΦA spec1 c ∗ tbPt c tbM (T 0)) from rfl,
    show (boxDat V T hT c).Φ t.castSucc = iprop(Pipeline.ΦA spec1 c ∗ tbPt c tbM (T 0)) from rfl,
    show (boxDat V T hT c).owesAt () t.succ = (boxDat V T hT c).owesAt () t.castSucc from rfl, boxDat_after_in, boxDat_after_out,
    boxInv_eq]
  unfold boxOut
  iintro ⟨⟨⟨⟨HA, HB, HC, HD, HS0, HS1⟩, Hg⟩, HT0⟩, Ho, ⟨%d0, H0⟩, ⟨%d1, H1⟩⟩
  iapply ((boxRun c (grid1.coords t) (stIn T t) (hstIn T t) (stOut T t) (hstOut T t) hsM (Memref.isWhole_whole _) ddM (Memref.isWhole_whole _)
    (boxBlk V T c 0 t) (T 0) (hT c (grid1.coords t)).1 (hT c (grid1.coords t)).2).2 Set.univ _)
  isplitl [H0]; · iexact H0
  isplitl [H1]; · iexists _; iexact H1
  isplitl [HS0]; · iexact HS0
  isplitl [HS1]; · iexact HS1
  isplitl [HT0]; · iexact HT0
  iintro ⟨H0, ⟨%e1, H1⟩, HS0, HS1, HT0⟩
  isplitl [HA HB HC HD HS0 HS1 Hg HT0]
  · isplitr [HT0]
    · isplitr [Hg]
      · isplitl [HA]; · iexact HA
        isplitl [HB]; · iexact HB
        isplitl [HC]; · iexact HC
        isplitl [HD]; · iexact HD
        isplitl [HS0]; · iexact HS0
        iexact HS1
      iexact Hg
    iexact HT0
  isplitl [Ho]; · iexact Ho
  isplitl [H0]; · iexact H0
  unfold owns; iexists _; isplitr
  swap; · iexact H1
  ipureintro; exact View.read_writes_eq_canon _ _ _ (box_cover c _ _ _ _ _ _ _ _ _ _ _ _ _)

/-- The body table's row at a point. -/
theorem box_row (t : Fin (cfg1 (admT T)).N) :
    defs₀ (F := F) .tc (cfg1 (admT T)).body ((cfg1 (admT T)).bodyArgs t ((cfg1 (admT T)).slots t)) = boxBody T t := by
  unfold defs₀; rw [Defs.onTc_tc]; rfl

/-- The region's body obligation. -/
theorem box_obligation (c : Dev nD) : BodyObligation (boxDat (F := F) V T hT c) (defs₀ (F := F)) Variants.none () Set.univ := fun t => by
  rw [bigSep_W1, bigSep_W1, box_row]
  exact triple_restated (box_body V T hT c t) rfl .rfl fun _ => .rfl

end

end Cert.Roi

end

end
-- ==== Proof.Box.Steps.lean ====
/-
  The box body written by its steps: seven windows of rows pooled into the height bins, four windows of slices of those
  into the depth bins, seven masks over whole rows of lanes into the width bins, and one piece of the output per channel.
-/
module

public import proofs.«01_k».proof.Proof.Box.Words
public import proofs.«01_k».proof.Proof.Box.Data

@[expose] public section

set_option maxRecDepth 16384

noncomputable section

namespace Cert.Roi

open Cert.KernelIdeal Cert.KernelIdeal.Gen
open Idealize.ShloMosaic Idealize.ShloMosaic.TcCoe Idealize.ShloMosaic.Tactic

variable {F : FTy → Type} [FloatOps F]

/-- The mask of the positions inside a bin: at least `lo`, below `hi`, positions counted from `off`. -/
abbrev binMask {s : Shape} (io : IVec s 32) (lo hi : BitVec 32) : IVec s 1 :=
  andi (cmpi .sge io (broadcast s lo)) (cmpi .slt io (broadcast s hi))

/-- The word at which bin `i` of `o` over an extent `ext` begins, counted from the crop's start. -/
abbrev loW (o ext i : BitVec 32) : BitVec 32 := fdiv (Scalar.muli i ext) o
/-- The word at which that bin ends, from the next bin's number. -/
abbrev hiW (o ext i1 : BitVec 32) : BitVec 32 := fdiv (Scalar.subi (Scalar.addi (Scalar.muli i1 ext) o) 1#32) o

/-- The most negative finite value, what a masked position counts as. -/
abbrev negF : F .f32 := Scalar.ofBits .f32 0xFF7FFFFF#32

/-- One height bin: the maximum over a window of eight rows, the rows outside the bin masked. -/
def hStep (h sh i i1 : BitVec 32) (seg : Vec F S1x4x8x8x8x96 .f32) : FVec F S4x8x8x96 .f32 :=
  multiReduction .maximumf [1] S4x8x8x96
    (select
      (broadcastTo S4x8x8x8x96
        (shapeCast S1x8x1x1x1
          (binMask (addi (iota Kind.tc S1x8x1x1x1 32 [1] iota_S1x8x1x1x1_d1_w32) (broadcast S1x8x1x1x1 (Scalar.minsi (Scalar.addi h (loW 7#32 sh i)) 88#32)))
            (Scalar.addi h (loW 7#32 sh i)) (Scalar.addi h (hiW 7#32 sh i1)))
          shapeCasts_S1x8x1x1x1_S1x8x1x1x1)
        broadcasts_S1x8x1x1x1_S4x8x8x8x96)
      (shapeCast S4x8x8x8x96 seg shapeCasts_S1x4x8x8x8x96_S4x8x8x8x96)
      (broadcast S4x8x8x8x96 negF))
    0xFF800000#32 reduces_S4x8x8x8x96_S4x8x8x96 (.inl rfl) rfl

/-- The seven height bins, stacked. -/
def hAll (h sh : BitVec 32) (seg : Fin 7 → Vec F S1x4x8x8x8x96 .f32) : FVec F S4x7x8x8x96 .f32 :=
  let st (n : Fin 7) : FVec F S4x1x8x8x96 .f32 := shapeCast S4x1x8x8x96 (hStep h sh (w32 n.val) (w32 (n.val + 1)) (seg n)) shapeCasts_S4x8x8x96_S4x1x8x8x96
  shapeCast S4x7x8x8x96
    (concatenate S4x7x8x8x96 1
      [⟨S4x1x8x8x96, st 0⟩, ⟨S4x1x8x8x96, st 1⟩, ⟨S4x1x8x8x96, st 2⟩, ⟨S4x1x8x8x96, st 3⟩,
        ⟨S4x1x8x8x96, st 4⟩, ⟨S4x1x8x8x96, st 5⟩, ⟨S4x1x8x8x96, st 6⟩]
      concatenates_S4x1x8x8x96_S4x1x8x8x96_S4x1x8x8x96_S4x1x8x8x96_S4x1x8x8x96_S4x1x8x8x96_S4x1x8x8x96_S4x7x8x8x96_d1)
    shapeCasts_S4x7x8x8x96_S4x7x8x8x96

/-- One depth bin: the maximum over a window of three slices, the slices outside the bin masked. -/
def dStep (sd i i1 : BitVec 32) (seg : Vec F S4x7x3x8x96 .f32) : FVec F S4x7x8x96 .f32 :=
  multiReduction .maximumf [2] S4x7x8x96
    (select
      (broadcastTo S4x7x3x8x96
        (shapeCast S1x1x3x1x1
          (binMask (addi (iota Kind.tc S1x1x3x1x1 32 [2] iota_S1x1x3x1x1_d2_w32) (broadcast S1x1x3x1x1 (Scalar.minsi (loW 4#32 sd i) 5#32)))
            (loW 4#32 sd i) (hiW 4#32 sd i1))
          shapeCasts_S1x1x3x1x1_S1x1x3x1x1)
        broadcasts_S1x1x3x1x1_S4x7x3x8x96)
      seg
      (broadcast S4x7x3x8x96 negF))
    0xFF800000#32 reduces_S4x7x3x8x96_S4x7x8x96 (.inl rfl) rfl

/-- The four depth bins, stacked. -/
def dAll (sd : BitVec 32) (seg : Fin 4 → Vec F S4x7x3x8x96 .f32) : FVec F S4x4x7x8x96 .f32 :=
  let st (n : Fin 4) : FVec F S4x1x7x8x96 .f32 := shapeCast S4x1x7x8x96 (dStep sd (w32 n.val) (w32 (n.val + 1)) (seg n)) shapeCasts_S4x7x8x96_S4x1x7x8x96
  concatenate S4x4x7x8x96 1
    [⟨S4x1x7x8x96, st 0⟩, ⟨S4x1x7x8x96, st 1⟩, ⟨S4x1x7x8x96, st 2⟩, ⟨S4x1x7x8x96, st 3⟩]
    concatenates_S4x1x7x8x96_S4x1x7x8x96_S4x1x7x8x96_S4x1x7x8x96_S4x4x7x8x96_d1

/-- One width bin: the maximum over a whole row of lanes, the lanes outside the bin masked. -/
def wStep (w sw i i1 : BitVec 32) (x : FVec F S4x4x7x8x96 .f32) : FVec F S4x4x7x8x1 .f32 :=
  shapeCast S4x4x7x8x1
    (multiReduction .maximumf [4] S4x4x7x8
      (select
        (broadcastTo S4x4x7x8x96
          (shapeCast S1x1x1x1x96
            (binMask (iota Kind.tc S1x1x1x1x96 32 [4] iota_S1x1x1x1x96_d4_w32) (Scalar.addi w (loW 7#32 sw i)) (Scalar.addi w (hiW 7#32 sw i1)))
            shapeCasts_S1x1x1x1x96_S1x1x1x1x96)
          broadcasts_S1x1x1x1x96_S4x4x7x8x96)
        x
        (broadcast S4x4x7x8x96 negF))
      0xFF800000#32 reduces_S4x4x7x8x96_S4x4x7x8 (.inl rfl) rfl)
    shapeCasts_S4x4x7x8_S4x4x7x8x1

/-- The pieces the width bins are stored as, last first. -/
def wPieces (w sw : BitVec 32) (x : FVec F S4x4x7x8x96 .f32) : List (View.Piece (Elt F) S4x4x7x8x7 .f32) :=
  [⟨Rect.unit ![0, 0, 0, 0, 6] S4x4x7x8x1.size inb_S4x4x7x8x7_S4x4x7x8x1_0_0_0_0_6, wStep w sw 6#32 7#32 x⟩,
   ⟨Rect.unit ![0, 0, 0, 0, 5] S4x4x7x8x1.size inb_S4x4x7x8x7_S4x4x7x8x1_0_0_0_0_5, wStep w sw 5#32 6#32 x⟩,
   ⟨Rect.unit ![0, 0, 0, 0, 4] S4x4x7x8x1.size inb_S4x4x7x8x7_S4x4x7x8x1_0_0_0_0_4, wStep w sw 4#32 5#32 x⟩,
   ⟨Rect.unit ![0, 0, 0, 0, 3] S4x4x7x8x1.size inb_S4x4x7x8x7_S4x4x7x8x1_0_0_0_0_3, wStep w sw 3#32 4#32 x⟩,
   ⟨Rect.unit ![0, 0, 0, 0, 2] S4x4x7x8x1.size inb_S4x4x7x8x7_S4x4x7x8x1_0_0_0_0_2, wStep w sw 2#32 3#32 x⟩,
   ⟨Rect.unit ![0, 0, 0, 0, 1] S4x4x7x8x1.size inb_S4x4x7x8x7_S4x4x7x8x1_0_0_0_0_1, wStep w sw 1#32 2#32 x⟩,
   ⟨Rect.unit ![0, 0, 0, 0, 0] S4x4x7x8x1.size inb_S4x4x7x8x7_S4x4x7x8x1_0_0_0_0_0, wStep w sw 0#32 1#32 x⟩]

/-- One channel of the binned block, as the output's piece. -/
abbrev chan (o : Fin 5 → ℕ) (h : S4x4x7x8x7.Slices o S4x4x7x1x7) (x : Vec F S4x4x7x8x7 .f32) : FVec F S1x1x4x4x7x7 .f32 :=
  shapeCast S1x1x4x4x7x7 (shapeCast S4x4x7x7 (extractStridedSlice S4x4x7x1x7 o x h) shapeCasts_S4x4x7x1x7_S4x4x7x7) shapeCasts_S4x4x7x7_S1x1x4x4x7x7

/-- The pieces of the output, last first. -/
def chanPieces (x : Vec F S4x4x7x8x7 .f32) : List (View.Piece (Elt F) S1x8x4x4x7x7 .f32) :=
  [⟨Rect.unit ![0, 7, 0, 0, 0, 0] S1x1x4x4x7x7.size inb_S1x8x4x4x7x7_S1x1x4x4x7x7_0_7_0_0_0_0, chan ![0, 0, 0, 7, 0] slices_S4x4x7x8x7_o0_0_0_7_0_S4x4x7x1x7 x⟩,
   ⟨Rect.unit ![0, 6, 0, 0, 0, 0] S1x1x4x4x7x7.size inb_S1x8x4x4x7x7_S1x1x4x4x7x7_0_6_0_0_0_0, chan ![0, 0, 0, 6, 0] slices_S4x4x7x8x7_o0_0_0_6_0_S4x4x7x1x7 x⟩,
   ⟨Rect.unit ![0, 5, 0, 0, 0, 0] S1x1x4x4x7x7.size inb_S1x8x4x4x7x7_S1x1x4x4x7x7_0_5_0_0_0_0, chan ![0, 0, 0, 5, 0] slices_S4x4x7x8x7_o0_0_0_5_0_S4x4x7x1x7 x⟩,
   ⟨Rect.unit ![0, 4, 0, 0, 0, 0] S1x1x4x4x7x7.size inb_S1x8x4x4x7x7_S1x1x4x4x7x7_0_4_0_0_0_0, chan ![0, 0, 0, 4, 0] slices_S4x4x7x8x7_o0_0_0_4_0_S4x4x7x1x7 x⟩,
   ⟨Rect.unit ![0, 3, 0, 0, 0, 0] S1x1x4x4x7x7.size inb_S1x8x4x4x7x7_S1x1x4x4x7x7_0_3_0_0_0_0, chan ![0, 0, 0, 3, 0] slices_S4x4x7x8x7_o0_0_0_3_0_S4x4x7x1x7 x⟩,
   ⟨Rect.unit ![0, 2, 0, 0, 0, 0] S1x1x4x4x7x7.size inb_S1x8x4x4x7x7_S1x1x4x4x7x7_0_2_0_0_0_0, chan ![0, 0, 0, 2, 0] slices_S4x4x7x8x7_o0_0_0_2_0_S4x4x7x1x7 x⟩,
   ⟨Rect.unit ![0, 1, 0, 0, 0, 0] S1x1x4x4x7x7.size inb_S1x8x4x4x7x7_S1x1x4x4x7x7_0_1_0_0_0_0, chan ![0, 0, 0, 1, 0] slices_S4x4x7x8x7_o0_0_0_1_0_S4x4x7x1x7 x⟩,
   ⟨Rect.unit ![0, 0, 0, 0, 0, 0] S1x1x4x4x7x7.size inb_S1x8x4x4x7x7_S1x1x4x4x7x7_0_0_0_0_0_0, chan ![0, 0, 0, 0, 0] slices_S4x4x7x8x7_o0_0_0_0_0_S4x4x7x1x7 x⟩]

section

variable (c : Dev nD) (i : grid1.Coords) (arg3 : Memref sig .tc .vmem S1x4x96x16x8x96 .f32) (harg3 : arg3.IsWhole) (arg4 : Memref sig .tc .vmem S1x8x4x4x7x7 .f32) (harg4 : arg4.IsWhole) (arg5 : Memref sig .tc .vmem S4x7x8x8x96 .f32) (harg5 : arg5.IsWhole) (arg6 : Memref sig .tc .vmem S4x4x7x8x7 .f32) (harg6 : arg6.IsWhole)
  (x0 : Vec F S1x4x96x16x8x96 .f32) (xt : TbBuf (F := F) c tbM)
  (hw2 : k1_chk2 (word c xt (k1_off1 i) (k1_off1_inb i)) (word c xt (k1_off4 i) (k1_off4_inb i)))
  (hw1 : k1_chk1 (word c xt (k1_off1 i) (k1_off1_inb i)) (word c xt (k1_off2 i) (k1_off2_inb i)) (word c xt (k1_off5 i) (k1_off5_inb i)))

/-- The words of a point's box: where it begins along depth, height and width, and its extents. -/
abbrev wD : BitVec 32 := word (F := F) c xt (k1_off1 i) (k1_off1_inb i)
abbrev wH : BitVec 32 := word (F := F) c xt (k1_off2 i) (k1_off2_inb i)
abbrev wW : BitVec 32 := word (F := F) c xt (k1_off3 i) (k1_off3_inb i)
abbrev wSD : BitVec 32 := Scalar.subi (word (F := F) c xt (k1_off4 i) (k1_off4_inb i)) (wD (F := F) c i xt)
abbrev wSH : BitVec 32 := Scalar.subi (word (F := F) c xt (k1_off5 i) (k1_off5_inb i)) (wH (F := F) c i xt)
abbrev wSW : BitVec 32 := Scalar.subi (word (F := F) c xt (k1_off6 i) (k1_off6_inb i)) (wW (F := F) c i xt)

/-- The window of rows of height bin `n`. -/
abbrev hSeg (n : Fin 7) : Vec F S1x4x8x8x8x96 .f32 :=
  View.readAt (Elt F) arg3.view
    (Rect.unit (s := S1x4x96x16x8x96) (k1_off7 (word c xt (k1_off1 i) (k1_off1_inb i)) (word c xt (k1_off2 i) (k1_off2_inb i)) (word c xt (k1_off5 i) (k1_off5_inb i)) (w32 n.val))
      S1x4x8x8x8x96.size (k1_off7_inb _ _ _ hw1 n)).toLoadRect (harg3.unread x0)

/-- The seven height bins, stacked, at a point. -/
def hsVal : FVec F S4x7x8x8x96 .f32 :=
  hAll (wH (F := F) c i xt) (wSH (F := F) c i xt) (hSeg c i arg3 harg3 x0 xt hw1)

/-- The window of slices of depth bin `n`, of the height bins held in the scratch buffer. -/
abbrev dSeg (n : Fin 4) : Vec F S4x7x3x8x96 .f32 :=
  View.readAt (Elt F) arg5.view
    (Rect.unit (s := S4x7x8x8x96) (k1_off8 (word c xt (k1_off1 i) (k1_off1_inb i)) (word c xt (k1_off4 i) (k1_off4_inb i)) (w32 n.val)) S4x7x3x8x96.size (k1_off8_inb _ _ hw2 n)).toLoadRect
    (arg5.view.writes (Elt F) arg5.view.junk
      [⟨Rect.unit ![0, 0, 0, 0, 0] S4x7x8x8x96.size inb_S4x7x8x8x96_S4x7x8x8x96_0_0_0_0_0, hsVal c i arg3 harg3 x0 xt hw1⟩])

/-- The four depth bins, stacked, at a point. -/
def dhVal : FVec F S4x4x7x8x96 .f32 :=
  dAll (wSD (F := F) c i xt) (dSeg c i arg3 harg3 arg5 x0 xt hw2 hw1)

/-- The width bins, as the body reads them back from their scratch buffer. -/
def ddVal : Vec F S4x4x7x8x7 .f32 :=
  arg6.view.readCov (wPieces (wW (F := F) c i xt) (wSW (F := F) c i xt) (dhVal c i arg3 harg3 arg5 x0 xt hw2 hw1))
    (Rect.unit ![0, 0, 0, 0, 0] S4x4x7x8x7.size inb_S4x4x7x8x7_S4x4x7x8x7_0_0_0_0_0).toLoadRect

/-- What the body leaves, by its steps. -/
theorem boxRun_eq :
    (boxRun c i arg3 harg3 arg4 harg4 arg5 harg5 arg6 harg6 x0 xt hw2 hw1).1
      = chanPieces (ddVal c i arg3 harg3 arg5 arg6 x0 xt hw2 hw1) := by
  sl_kernel_rfl

end

end Cert.Roi
-- ==== Proof.Box.Table.lean ====
/-
  What the precondition says of the table of boxes: each box is six naturals in their ranges, held as words.
-/
module

public import proofs.«01_k».proof.Defs
public import proofs.«01_k».proof.Proof.Box.Words
public import proofs.«01_k».proof.Proof.Gen.Pre_boxes_in_range
public import Idealize.ShloMosaic.Lib.Pointwise

@[expose] public section

set_option maxRecDepth 16384

namespace Cert.Roi

open Idealize.ShloMosaic

/-- A box's crop: where it begins along depth, height and width, and its extents, in the ranges the inputs are drawn from. -/
structure Crop where
  d : ℕ
  h : ℕ
  w : ℕ
  sd : ℕ
  sh : ℕ
  sw : ℕ
  hd : d ≤ 7
  hh : h ≤ 47
  hw : w ≤ 47
  hsd : 4 ≤ sd
  hsd' : sd ≤ 8
  hsh : 7 ≤ sh
  hsh' : sh ≤ 48
  hsw : 7 ≤ sw
  hsw' : sw ≤ 48

/-- A table of boxes. -/
abbrev Table := (⟨3, ![2, 16, 8]⟩ : Shape).Idx → BitVec 32

/-- Row `(b, k)` of the table holds the crop. -/
structure Crop.At (x : Crop) (f : Table) (b : Fin 2) (k : Fin 16) : Prop where
  w0 : f (ix3 b k 0) = w32 0
  w1 : f (ix3 b k 1) = w32 x.d
  w2 : f (ix3 b k 2) = w32 x.h
  w3 : f (ix3 b k 3) = w32 x.w
  w4 : f (ix3 b k 4) = w32 8
  w5 : f (ix3 b k 5) = w32 (x.d + x.sd)
  w6 : f (ix3 b k 6) = w32 (x.h + x.sh)
  w7 : f (ix3 b k 7) = w32 (x.w + x.sw)

/-- A corner word in `[0, A]` and an extent in `[B, C]` are naturals. -/
theorem edge_nat {x y : BitVec 32} {A B C : ℕ} (hA : A < 2 ^ 30) (hC : C < 2 ^ 30) (h0 : IntOp.cmpi .sge x 0#32 = 1#1) (h1 : IntOp.cmpi .sle x (w32 A) = 1#1)
    (h2 : IntOp.cmpi .sge (IntOp.subi y x) (w32 B) = 1#1) (h3 : IntOp.cmpi .sle (IntOp.subi y x) (w32 C) = 1#1) (hB : B < 2 ^ 30) :
    ∃ p q : ℕ, p ≤ A ∧ B ≤ q ∧ q ≤ C ∧ x = w32 p ∧ y = w32 (p + q) := by
  have h0' := (WordArith.ofBool_eq_one_iff _).1 h0
  have h1' := (WordArith.ofBool_eq_one_iff _).1 h1
  have h2' := (WordArith.ofBool_eq_one_iff _).1 h2
  have h3' := (WordArith.ofBool_eq_one_iff _).1 h3
  simp only [BitVec.sle, decide_eq_true_eq] at h0' h1' h2' h3'
  rw [toInt_w32 (by omega)] at h1' h2' h3'
  have z : (0#32 : BitVec 32).toInt = 0 := rfl
  rw [z] at h0'
  have e : IntOp.subi y x = y - x := rfl
  rw [e] at h2' h3'
  have hx : x.toNat < 2 ^ 31 := by
    have := x.isLt
    rw [BitVec.toInt_eq_toNat_cond] at h0'; split at h0' <;> omega
  have hx' : x.toInt = x.toNat := by rw [BitVec.toInt_eq_toNat_cond, if_pos (by omega)]
  have hs : (y - x).toNat < 2 ^ 31 := by
    have := (y - x).isLt
    have hh : 0 ≤ (y - x).toInt := by omega
    rw [BitVec.toInt_eq_toNat_cond] at hh; split at hh <;> omega
  have hs' : (y - x).toInt = (y - x).toNat := by rw [BitVec.toInt_eq_toNat_cond, if_pos (by omega)]
  refine ⟨x.toNat, (y - x).toNat, by omega, by omega, by omega, ?_, ?_⟩
  · rw [w32, BitVec.ofNat_toNat, BitVec.setWidth_eq]
  · rw [w32, BitVec.ofNat_add, BitVec.ofNat_toNat, BitVec.ofNat_toNat, BitVec.setWidth_eq, BitVec.setWidth_eq, BitVec.add_comm, BitVec.sub_add_cancel]

theorem andi_eq_one {a b : BitVec 1} (h : IntOp.andi a b = 1#1) : a = 1#1 ∧ b = 1#1 := by
  revert h; revert a b; decide

/-- What the precondition's predicate gives of each row of the table. -/
theorem crop_of_pre {F : FTy → Type} [FloatOps F] (x : FVec F ⟨6, ![2, 32, 8, 16, 96, 96]⟩ .f32) (f : Table)
    (h : Cert.Pre_boxes_in_range.fn x f = fun _ => 1#1) (b : Fin 2) (k : Fin 16) : ∃ c : Crop, c.At f b k := by
  have col (a : Fin 4) : ∃ p q : ℕ, p ≤ (![0, 7, 47, 47] : Fin 4 → ℕ) a ∧ (![8, 4, 7, 7] : Fin 4 → ℕ) a ≤ q ∧ q ≤ (![8, 8, 48, 48] : Fin 4 → ℕ) a
      ∧ f (ix3 b k ⟨0 + a.val, by omega⟩) = w32 p ∧ f (ix3 b k ⟨4 + a.val, by omega⟩) = w32 (p + q) := by
    have e := congrFun h (ix3 b k a)
    unfold Cert.Pre_boxes_in_range.fn at e
    dsimp only at e
    obtain ⟨e, e4⟩ := andi_eq_one e
    obtain ⟨e, e3⟩ := andi_eq_one e
    obtain ⟨e1, e2⟩ := andi_eq_one e
    have i1 : ∀ (o : Fin 3 → ℕ) (hs : (⟨3, ![2, 16, 8]⟩ : Shape).Slices o ⟨3, ![2, 16, 4]⟩) (ho : o 0 = 0) (ho1 : o 1 = 0) (hb : o 2 + a.val < 8),
        extractStridedSlice ⟨3, ![2, 16, 4]⟩ o f hs (ix3 b k a) = f (ix3 b k ⟨o 2 + a.val, hb⟩) := by
      intro o hs ho ho1 hb
      refine congrArg f (funext fun z => Fin.ext ?_)
      match z with
      | ⟨0, _⟩ => show o 0 + b.val = b.val; omega
      | ⟨1, _⟩ => show o 1 + k.val = k.val; omega
      | ⟨2, _⟩ => rfl
    have A := edge_nat (x := f (ix3 b k ⟨0 + a.val, by omega⟩)) (y := f (ix3 b k ⟨4 + a.val, by omega⟩))
      (A := (![0, 7, 47, 47] : Fin 4 → ℕ) a) (B := (![8, 4, 7, 7] : Fin 4 → ℕ) a) (C := (![8, 8, 48, 48] : Fin 4 → ℕ) a)
      (by fin_cases a <;> decide) (by fin_cases a <;> decide)
    refine A ?_ ?_ ?_ ?_ (by fin_cases a <;> decide)
    · exact (congrArg₂ (IntOp.cmpi .sge) (i1 ![0, 0, 0] _ rfl rfl (by show 0 + a.val < 8; omega)) rfl).symm.trans e1
    · exact (congrArg₂ (IntOp.cmpi .sle) (i1 ![0, 0, 0] _ rfl rfl (by show 0 + a.val < 8; omega)) (by fin_cases a <;> rfl)).symm.trans e2
    · exact (congrArg₂ (IntOp.cmpi .sge) (congrArg₂ IntOp.subi (i1 ![0, 0, 4] _ rfl rfl (by show 4 + a.val < 8; omega)) (i1 ![0, 0, 0] _ rfl rfl (by show 0 + a.val < 8; omega))) (by fin_cases a <;> rfl)).symm.trans e3
    · exact (congrArg₂ (IntOp.cmpi .sle) (congrArg₂ IntOp.subi (i1 ![0, 0, 4] _ rfl rfl (by show 4 + a.val < 8; omega)) (i1 ![0, 0, 0] _ rfl rfl (by show 0 + a.val < 8; omega))) (by fin_cases a <;> rfl)).symm.trans e4
  obtain ⟨p0, q0, a0, b0, c0, d0, e0⟩ := col 0
  obtain ⟨p1, q1, a1, b1, c1, d1, e1⟩ := col 1
  obtain ⟨p2, q2, a2, b2, c2, d2, e2⟩ := col 2
  obtain ⟨p3, q3, a3, b3, c3, d3, e3⟩ := col 3
  simp at a0 b0 c0 a1 b1 c1 a2 b2 c2 a3 b3 c3
  refine ⟨⟨p1, p2, p3, q1, q2, q3, a1, a2, a3, b1, c1, b2, c2, b3, c3⟩, ⟨?_, d1, d2, d3, ?_, e1, e2, e3⟩⟩
  · subst a0; exact d0
  · obtain rfl : q0 = 8 := by omega
    subst a0; exact e0

end Cert.Roi
-- ==== Proof.Box.Checked.lean ====
/-
  The words a point of the box region reads are its box's, and the windows it loads by them lie inside their arrays.
-/
module

public import proofs.«01_k».proof.Proof.Box.Steps
public import proofs.«01_k».proof.Proof.Box.Table

@[expose] public section

set_option maxRecDepth 16384

namespace Cert.Roi

open Cert.KernelIdeal Cert.KernelIdeal.Gen
open Idealize.ShloMosaic Idealize.ShloMosaic.TcCoe Idealize.ShloMosaic.Tactic

variable {F : FTy → Type} [FloatOps F]

/-- The image of a point of the box region. -/
def ptB (i : grid1.Coords) : Fin 2 := ⟨(i 0).val / 4, by have : (i 0).val < 8 := (i 0).isLt; omega⟩
/-- The box of a point of the box region, among its image's. -/
def ptK (i : grid1.Coords) : Fin 16 := ⟨(i 1).val, (i 1).isLt⟩

/-- A word read at an element's coordinates is that element. -/
theorem word_eq (c : Dev nD) (f : TbBuf (F := F) c tbM) (off : Fin 3 → ℕ) (h : ∀ a, off a + S1x1x1.size a ≤ S2x16x8.size a) (b : Fin 2) (k : Fin 16) (a : Fin 8)
    (hb : off 0 = b.val) (hk : off 1 = k.val) (ha : off 2 = a.val) : word (F := F) c f off h = (show Table from f) (ix3 b k a) := by
  show View.readAt (Elt F) _ _ _ _ = _
  rw [View.readAt_apply]
  refine congrArg (show Table from f) (funext fun z => Fin.ext ?_)
  match z with
  | ⟨0, _⟩ => show off 0 + 1 * 0 = b.val; omega
  | ⟨1, _⟩ => show off 1 + 1 * 0 = k.val; omega
  | ⟨2, _⟩ => show off 2 + 1 * 0 = a.val; omega

/-- The offsets of a row's words: the point's image, its box, the word. -/
theorem rowOff (i : grid1.Coords) : (Scalar.indexCast (fdiv (w32 (i 0).val) (w32 4))).toNat = (ptB i).val
    ∧ (Scalar.indexCast (w32 (i 1).val)).toNat = (ptK i).val := by
  have h0 : (i 0).val < 8 := (i 0).isLt
  have h1 : (i 1).val < 16 := (i 1).isLt
  rw [fdiv_w32 (by omega) (by decide) (by decide)]
  exact ⟨w32_toNat (by omega), w32_toNat (by omega)⟩

section

variable (c : Dev nD) (i : grid1.Coords) (f : TbBuf (F := F) c tbM) {x : Crop} (hx : x.At (show Table from f) (ptB i) (ptK i))
include hx

theorem word1 : word (F := F) c f (k1_off1 i) (k1_off1_inb i) = w32 x.d :=
  (word_eq c f _ _ (ptB i) (ptK i) 1 (rowOff i).1 (rowOff i).2 rfl).trans hx.w1
theorem word2 : word (F := F) c f (k1_off2 i) (k1_off2_inb i) = w32 x.h :=
  (word_eq c f _ _ (ptB i) (ptK i) 2 (rowOff i).1 (rowOff i).2 rfl).trans hx.w2
theorem word3 : word (F := F) c f (k1_off3 i) (k1_off3_inb i) = w32 x.w :=
  (word_eq c f _ _ (ptB i) (ptK i) 3 (rowOff i).1 (rowOff i).2 rfl).trans hx.w3
theorem word5 : word (F := F) c f (k1_off4 i) (k1_off4_inb i) = w32 (x.d + x.sd) :=
  (word_eq c f _ _ (ptB i) (ptK i) 5 (rowOff i).1 (rowOff i).2 rfl).trans hx.w5
theorem word6 : word (F := F) c f (k1_off5 i) (k1_off5_inb i) = w32 (x.h + x.sh) :=
  (word_eq c f _ _ (ptB i) (ptK i) 6 (rowOff i).1 (rowOff i).2 rfl).trans hx.w6
theorem word7 : word (F := F) c f (k1_off6 i) (k1_off6_inb i) = w32 (x.w + x.sw) :=
  (word_eq c f _ _ (ptB i) (ptK i) 7 (rowOff i).1 (rowOff i).2 rfl).trans hx.w7

theorem wSD_eq : wSD (F := F) c i f = w32 x.sd := by
  rw [wSD, wD, word1 c i f hx, word5 c i f hx]
  have := x.hd; have := x.hsd'
  exact (subi_w32 (by omega) (by omega)).trans (congrArg w32 (by omega))
theorem wSH_eq : wSH (F := F) c i f = w32 x.sh := by
  rw [wSH, wH, word2 c i f hx, word6 c i f hx]
  have := x.hh; have := x.hsh'
  exact (subi_w32 (by omega) (by omega)).trans (congrArg w32 (by omega))
theorem wSW_eq : wSW (F := F) c i f = w32 x.sw := by
  rw [wSW, wW, word3 c i f hx, word7 c i f hx]
  have := x.hw; have := x.hsw'
  exact (subi_w32 (by omega) (by omega)).trans (congrArg w32 (by omega))

end

/-- Where the window of rows of height bin `n` begins. -/
abbrev hOff (x : Crop) (n : ℕ) : ℕ := min (x.h + binLo 7 x.sh n) 88
/-- Where the window of slices of depth bin `n` begins, counted from the crop's start. -/
abbrev dOff (x : Crop) (n : ℕ) : ℕ := min (binLo 4 x.sd n) 5

theorem binLo_le {o S i m : ℕ} (hi : i ≤ m) : binLo o S i ≤ m * S := by
  exact (Nat.div_le_self _ _).trans (Nat.mul_le_mul_right _ hi)

theorem mul_le_of {a b m n : ℕ} (ha : a ≤ m) (hb : b ≤ n) : a * b ≤ m * n := Nat.mul_le_mul ha hb

theorem hOff_w32 (x : Crop) {n : ℕ} (hn : n ≤ 7) :
    Scalar.minsi (Scalar.addi (w32 x.h) (loW 7#32 (w32 x.sh) (w32 n))) 88#32 = w32 (hOff x n) := by
  have h1 := mul_le_of hn x.hsh'
  have h2 : binLo 7 x.sh n ≤ 7 * 48 := (Nat.div_le_self _ _).trans h1
  have h3 := x.hh
  rw [show loW 7#32 (w32 x.sh) (w32 n) = w32 (binLo 7 x.sh n) from fdiv_lo (by decide) (by decide) (by omega)]
  exact (congrArg (IntOp.minsi · (w32 88)) (addi_w32 _ _)).trans (minsi_w32 (by omega) (by decide))

theorem dOff_w32 (x : Crop) {n : ℕ} (hn : n ≤ 4) :
    Scalar.minsi (loW 4#32 (w32 x.sd) (w32 n)) 5#32 = w32 (dOff x n) := by
  have h1 := mul_le_of hn x.hsd'
  have h2 : binLo 4 x.sd n ≤ 4 * 8 := (Nat.div_le_self _ _).trans h1
  rw [show loW 4#32 (w32 x.sd) (w32 n) = w32 (binLo 4 x.sd n) from fdiv_lo (by decide) (by decide) (by omega)]
  exact minsi_w32 (by omega) (by decide)

theorem off7_eq (x : Crop) {n : ℕ} (hn : n ≤ 7) : k1_off7 (w32 x.d) (w32 x.h) (w32 (x.h + x.sh)) (w32 n) = ![0, 0, hOff x n, x.d, 0, 0] := by
  have h1 := x.hh; have h2 := x.hsh'; have h3 := x.hd
  have e : Scalar.subi (w32 (x.h + x.sh)) (w32 x.h) = w32 x.sh := (subi_w32 (by omega) (by omega)).trans (congrArg w32 (by omega))
  show ![0, 0, (Scalar.minsi (Scalar.addi (w32 x.h) (loW 7#32 (Scalar.subi (w32 (x.h + x.sh)) (w32 x.h)) (w32 n))) 88#32).toNat, (w32 x.d).toNat, 0, 0] = _
  rw [e, hOff_w32 x hn, w32_toNat ((min_le_right _ _).trans_lt (by decide)), w32_toNat (by omega)]

theorem off8_eq (x : Crop) {n : ℕ} (hn : n ≤ 4) : k1_off8 (w32 x.d) (w32 (x.d + x.sd)) (w32 n) = ![0, 0, dOff x n, 0, 0] := by
  have h1 := x.hd; have h2 := x.hsd'
  have e : Scalar.subi (w32 (x.d + x.sd)) (w32 x.d) = w32 x.sd := (subi_w32 (by omega) (by omega)).trans (congrArg w32 (by omega))
  show ![0, 0, (Scalar.minsi (loW 4#32 (Scalar.subi (w32 (x.d + x.sd)) (w32 x.d)) (w32 n)) 5#32).toNat, 0, 0] = _
  rw [e, dOff_w32 x hn, w32_toNat ((min_le_right _ _).trans_lt (by decide))]

/-- A table whose every row holds a crop passes the checks at every point. -/
theorem checked_of_crops (T : pre1.Contents (Elt F)) (h : ∀ b k, ∃ x : Crop, x.At (show Table from T 0) b k) : Checked T := by
  intro c i
  obtain ⟨x, hx⟩ := h (ptB i) (ptK i)
  rw [word1 c i (T 0) hx, word2 c i (T 0) hx, word5 c i (T 0) hx, word6 c i (T 0) hx]
  constructor
  · intro r a
    have hr : r.val ≤ 4 := by omega
    rw [show BitVec.ofNat 32 r.val = w32 r.val from rfl, off8_eq x hr]
    have := x.hsd'
    match a with
    | ⟨0, _⟩ => exact (by decide : 0 + 4 ≤ 4)
    | ⟨1, _⟩ => exact (by decide : 0 + 7 ≤ 7)
    | ⟨2, _⟩ => show dOff x r.val + 3 ≤ 8; simp only [dOff]; omega
    | ⟨3, _⟩ => exact (by decide : 0 + 8 ≤ 8)
    | ⟨4, _⟩ => exact (by decide : 0 + 96 ≤ 96)
  · intro r a
    have hr : r.val ≤ 7 := by omega
    rw [show BitVec.ofNat 32 r.val = w32 r.val from rfl, off7_eq x hr]
    have := x.hd
    match a with
    | ⟨0, _⟩ => exact (by decide : 0 + 1 ≤ 1)
    | ⟨1, _⟩ => exact (by decide : 0 + 4 ≤ 4)
    | ⟨2, _⟩ => show hOff x r.val + 8 ≤ 96; simp only [hOff]; omega
    | ⟨3, _⟩ => show x.d + 8 ≤ 16; omega
    | ⟨4, _⟩ => exact (by decide : 0 + 8 ≤ 8)
    | ⟨5, _⟩ => exact (by decide : 0 + 96 ≤ 96)

end Cert.Roi
-- ==== Proof.Box.Bins.lean ====
/-
  What bounds a bin: a pooled bin is at most `z` exactly when every element inside it is, `z` being at least the most
  negative finite value, which the masked positions count as.
-/
module

public import proofs.«01_k».proof.Proof.Box.Checked
public import Idealize.ShloMosaic.Lib.Pointwise

@[expose] public section

set_option maxRecDepth 16384

noncomputable section

namespace Cert.Roi

open Cert.KernelIdeal Cert.KernelIdeal.Gen
open Idealize.ShloMosaic Idealize.ShloMosaic.TcCoe Idealize.ShloMosaic.Tactic

/-- The most negative finite value, as an extended real. -/
abbrev negZ : EReal := Ideal.ofBits .f32 0xFF7FFFFF#32

theorem bot_eq : Ideal.ofBits .f32 0xFF800000#32 = ⊥ := by simp [Ideal.ofBits, Ideal.ieee]

/-- A maximum taken from minus infinity is at most `z` exactly when every element is. -/
theorem fold_max_le_iff {n : ℕ} (f : Fin n → EReal) (z : EReal) :
    (Finset.univ : Finset (Fin n)).fold max (Ideal.ofBits .f32 0xFF800000#32) f ≤ z ↔ ∀ k, f k ≤ z := by
  rw [Finset.fold_max_le, bot_eq]
  exact ⟨fun h k => h.2 k (Finset.mem_univ k), fun h => ⟨bot_le, fun k _ => h k⟩⟩

/-- An element masked to a bin is at most `z` exactly when it is so wherever its position lies in the bin. -/
theorem masked_le_iff {p a b : ℕ} (hp : p < 2 ^ 31) (ha : a < 2 ^ 31) (hb : b < 2 ^ 31) (e z : EReal) (hz : negZ ≤ z) :
    Scalar.select (IntOp.andi (IntOp.cmpi .sge (w32 p) (w32 a)) (IntOp.cmpi .slt (w32 p) (w32 b))) e negZ ≤ z
      ↔ (a ≤ p ∧ p < b → e ≤ z) := by
  rw [inBin_w32 hp ha hb]
  unfold Scalar.select
  by_cases h : a ≤ p ∧ p < b
  · rw [decide_eq_true h]; exact ⟨fun g _ => g, fun g => g h⟩
  · rw [decide_eq_false h]; exact ⟨fun _ g => absurd g h, fun _ => hz⟩

section

variable (x : Crop)

theorem hi_le {o S i : ℕ} : binHi o S i ≤ (i + 1) * S + (o - 1) := Nat.div_le_self _ _
theorem lo_le {o S i : ℕ} : binLo o S i ≤ i * S := Nat.div_le_self _ _

theorem edgeW {p o S n : ℕ} (ho : 0 < o) (ho' : o ≤ 7) (hS : S ≤ 48) (hn : n ≤ 6) :
    Scalar.addi (w32 p) (loW (w32 o) (w32 S) (w32 n)) = w32 (p + binLo o S n)
      ∧ Scalar.addi (w32 p) (hiW (w32 o) (w32 S) (w32 (n + 1))) = w32 (p + binHi o S n)
      ∧ binLo o S n ≤ 288 ∧ binHi o S n ≤ 342 := by
  have h1 := mul_le_of hn hS
  have h2 := mul_le_of (Nat.succ_le_succ hn) hS
  have h3 : (n + 1) * S ≤ 336 := h2
  refine ⟨?_, ?_, lo_le.trans (by omega), hi_le.trans (by omega)⟩
  · rw [show loW (w32 o) (w32 S) (w32 n) = w32 (binLo o S n) from fdiv_lo ho (by omega) (by omega)]
    exact addi_w32 _ _
  · rw [show hiW (w32 o) (w32 S) (w32 (n + 1)) = w32 (binHi o S n) from fdiv_hi ho (by omega) (by omega)]
    exact addi_w32 _ _

end

theorem hStep_le (x : Crop) {n : ℕ} (hn : n ≤ 6) (seg : Vec Ideal S1x4x8x8x8x96 .f32) (z : EReal) (hz : negZ ≤ z)
    (t : Fin 4) (e : Fin 8) (ch : Fin 8) (w : Fin 96) :
    hStep (F := Ideal) (w32 x.h) (w32 x.sh) (w32 n) (w32 (n + 1)) seg (ix4 t e ch w) ≤ z
      ↔ ∀ r : Fin 8, x.h + binLo 7 x.sh n ≤ r.val + hOff x n ∧ r.val + hOff x n < x.h + binHi 7 x.sh n → seg (ix6 0 t r e ch w) ≤ z := by
  have hh := x.hh
  obtain ⟨e1, e2, b1, b2⟩ := edgeW (p := x.h) (o := 7) (S := x.sh) (n := n) (by decide) (by decide) x.hsh' hn
  unfold hStep
  rw [hOff_w32 x (by omega), show (7#32 : BitVec 32) = w32 7 from rfl, e1, e2]
  pointwise
  rw [fold_max_le_iff]
  refine forall_congr' fun r => ?_
  rw [addi_w32]
  exact masked_le_iff (by simp only [hOff]; omega) (by omega) (by omega) _ _ hz

theorem dStep_le (x : Crop) {n : ℕ} (hn : n ≤ 3) (seg : Vec Ideal S4x7x3x8x96 .f32) (z : EReal) (hz : negZ ≤ z)
    (t : Fin 4) (i : Fin 7) (ch : Fin 8) (w : Fin 96) :
    dStep (F := Ideal) (w32 x.sd) (w32 n) (w32 (n + 1)) seg (ix4 t i ch w) ≤ z
      ↔ ∀ q : Fin 3, binLo 4 x.sd n ≤ q.val + dOff x n ∧ q.val + dOff x n < binHi 4 x.sd n → seg (ix5 t i q ch w) ≤ z := by
  have hh := x.hsd'
  have h1 := mul_le_of hn x.hsd'
  have h2 : (n + 1) * x.sd ≤ 32 := mul_le_of (Nat.succ_le_succ hn) x.hsd'
  have b1 : binLo 4 x.sd n ≤ 24 := lo_le.trans h1
  have b2 : binHi 4 x.sd n ≤ 35 := hi_le.trans (by omega)
  unfold dStep
  rw [dOff_w32 x (by omega), show (4#32 : BitVec 32) = w32 4 from rfl,
    show loW (w32 4) (w32 x.sd) (w32 n) = w32 (binLo 4 x.sd n) from fdiv_lo (by decide) (by decide) (by omega),
    show hiW (w32 4) (w32 x.sd) (w32 (n + 1)) = w32 (binHi 4 x.sd n) from fdiv_hi (by decide) (by decide) (by omega)]
  pointwise
  rw [fold_max_le_iff]
  have three (P : Fin 3 → Prop) : (∀ q, P q) ↔ P 0 ∧ P 1 ∧ P 2 :=
    ⟨fun h => ⟨h 0, h 1, h 2⟩, fun h q => match q with | 0 => h.1 | 1 => h.2.1 | 2 => h.2.2⟩
  refine Iff.trans (forall_congr' fun q => ?_) ((three fun q => binLo 4 x.sd n ≤ q.val + dOff x n ∧ q.val + dOff x n < binHi 4 x.sd n → seg (ix5 t i q ch w) ≤ z).trans
    (and_congr (iff_of_eq (congrArg (fun p => binLo 4 x.sd n ≤ p ∧ p < binHi 4 x.sd n → seg (ix5 t i 0 ch w) ≤ z) (Nat.zero_add (dOff x n)))) Iff.rfl))
  rw [addi_w32]
  exact masked_le_iff (by simp only [dOff]; omega) (by omega) (by omega) _ _ hz

theorem wStep_le (x : Crop) {n : ℕ} (hn : n ≤ 6) (y : FVec Ideal S4x4x7x8x96 .f32) (z : EReal) (hz : negZ ≤ z)
    (t : Fin 4) (j : Fin 4) (i : Fin 7) (ch : Fin 8) (u : Fin 1) :
    wStep (F := Ideal) (w32 x.w) (w32 x.sw) (w32 n) (w32 (n + 1)) y (ix5 t j i ch u) ≤ z
      ↔ ∀ l : Fin 96, x.w + binLo 7 x.sw n ≤ l.val ∧ l.val < x.w + binHi 7 x.sw n → y (ix5 t j i ch l) ≤ z := by
  have hh := x.hw
  obtain ⟨e1, e2, b1, b2⟩ := edgeW (p := x.w) (o := 7) (S := x.sw) (n := n) (by decide) (by decide) x.hsw' hn
  unfold wStep
  rw [show (7#32 : BitVec 32) = w32 7 from rfl, e1, e2]
  pointwise
  rw [fold_max_le_iff]
  refine forall_congr' fun r => ?_
  exact masked_le_iff (by omega) (by omega) (by omega) _ _ hz

/-- A width bin is never below the most negative finite value: some lane lies outside it. -/
theorem neg_le_wStep (x : Crop) {n : ℕ} (hn : n ≤ 6) (y : FVec Ideal S4x4x7x8x96 .f32)
    (t : Fin 4) (j : Fin 4) (i : Fin 7) (ch : Fin 8) (u : Fin 1) :
    negZ ≤ wStep (F := Ideal) (w32 x.w) (w32 x.sw) (w32 n) (w32 (n + 1)) y (ix5 t j i ch u) := by
  have hh := x.hw
  obtain ⟨e1, e2, b1, b2⟩ := edgeW (p := x.w) (o := 7) (S := x.sw) (n := n) (by decide) (by decide) x.hsw' hn
  unfold wStep
  rw [show (7#32 : BitVec 32) = w32 7 from rfl, e1, e2]
  pointwise
  have key : ∃ l : Fin 96, ¬ (x.w + binLo 7 x.sw n ≤ l.val ∧ l.val < x.w + binHi 7 x.sw n) := by
    by_cases h0 : x.w + binLo 7 x.sw n = 0
    · refine ⟨95, ?_⟩
      have := x.hsw'
      simp only [binLo, binHi] at h0 ⊢
      have : (n + 1) * x.sw ≤ n * x.sw + 48 := by rw [Nat.succ_mul]; omega
      have : n * x.sw / 7 = 0 := by omega
      have e : ((95 : Fin 96) : ℕ) = 95 := rfl
      omega
    · exact ⟨0, fun h => h0 (by have := h.1; simp only [Fin.val_zero] at this; omega)⟩
  obtain ⟨l, hl⟩ := key
  refine le_trans ?_ ((fold_max_le_iff _ _).1 le_rfl l)
  rw [inBin_w32 (by omega) (by omega) (by omega), decide_eq_false hl]
  exact le_rfl

end Cert.Roi
-- ==== Proof.Box.Stack.lean ====
/-
  The bins stacked: an element of a stack is its bin's, and a bin's window holds the whole bin, so a bound on a stacked
  element is a bound on every element of the axis inside the bin.
-/
module

public import proofs.«01_k».proof.Proof.Box.Bins
public import Idealize.ShloMosaic.Lib.Pipeline.ValueKit

@[expose] public section

set_option maxRecDepth 16384

noncomputable section

namespace Cert.Roi

open Cert.KernelIdeal Cert.KernelIdeal.Gen
open Idealize.ShloMosaic Idealize.ShloMosaic.TcCoe Idealize.ShloMosaic.Tactic

/-- A window that holds a bin sees every element of the bin. -/
theorem window_iff {N K off lo hi : ℕ} (hN : off + K ≤ N) (h1 : off ≤ lo) (h2 : hi ≤ off + K) (P : Fin N → Prop) :
    (∀ r : Fin K, lo ≤ r.val + off ∧ r.val + off < hi → P ⟨off + r.val, by omega⟩) ↔ ∀ y : Fin N, lo ≤ y.val ∧ y.val < hi → P y := by
  constructor
  · intro h y hy
    have := h ⟨y.val - off, by omega⟩ ⟨by show lo ≤ y.val - off + off; omega, by show y.val - off + off < hi; omega⟩
    have e : (⟨off + (y.val - off), by omega⟩ : Fin N) = y := Fin.ext (by show off + (y.val - off) = y.val; omega)
    rw [← e]; exact this
  · intro h r hr
    exact h _ ⟨by show lo ≤ off + r.val; omega, by show off + r.val < hi; omega⟩

/-- A height bin lies in its window of eight rows. -/
theorem hWindow (x : Crop) {n : ℕ} (hn : n ≤ 6) : x.h + binHi 7 x.sh n ≤ hOff x n + 8 := by
  have h1 := x.hsh'
  have h2 := x.hh
  have h3 : (n + 1) * x.sh = n * x.sh + x.sh := Nat.succ_mul _ _
  have h4 : (n + 1) * x.sh ≤ 7 * x.sh := Nat.mul_le_mul_right _ (by omega)
  simp only [hOff, binHi, binLo]
  rw [h3] at h4 ⊢
  generalize n * x.sh = p at *
  omega

/-- A depth bin lies in its window of three slices. -/
theorem dWindow (x : Crop) {n : ℕ} (hn : n ≤ 3) : binHi 4 x.sd n ≤ dOff x n + 3 := by
  have h1 := x.hsd'
  have h3 : (n + 1) * x.sd = n * x.sd + x.sd := Nat.succ_mul _ _
  have h4 : (n + 1) * x.sd ≤ 4 * x.sd := Nat.mul_le_mul_right _ (by omega)
  simp only [dOff, binHi, binLo]
  rw [h3] at h4 ⊢
  generalize n * x.sd = p at *
  omega

/-- An element of the stacked height bins is its bin's. -/
theorem hAll_apply (h sh : BitVec 32) (seg : Fin 7 → Vec Ideal S1x4x8x8x8x96 .f32) (t : Fin 4) (n : Fin 7) (e ch : Fin 8) (w : Fin 96) :
    hAll (F := Ideal) h sh seg (ix5 t n e ch w) = hStep h sh (w32 n.val) (w32 (n.val + 1)) (seg n) (ix4 t e ch w) := by
  unfold hAll
  dsimp only
  fin_cases n <;> pointwise

/-- An index named by its coordinates. -/
theorem idx5_eq {n0 n1 n2 n3 n4 : ℕ} {j : (⟨5, ![n0, n1, n2, n3, n4]⟩ : Shape).Idx} {a : Fin n0} {b : Fin n1} {c : Fin n2} {d : Fin n3} {e : Fin n4}
    (h0 : (j 0).val = a.val) (h1 : (j 1).val = b.val) (h2 : (j 2).val = c.val) (h3 : (j 3).val = d.val) (h4 : (j 4).val = e.val) :
    j = ix5 a b c d e := by
  funext z; refine Fin.ext ?_
  match z with
  | ⟨0, _⟩ => exact h0
  | ⟨1, _⟩ => exact h1
  | ⟨2, _⟩ => exact h2
  | ⟨3, _⟩ => exact h3
  | ⟨4, _⟩ => exact h4

/-- A depth bin placed on the axis of its stack. -/
theorem dRow_apply (v : FVec Ideal S4x7x8x96 .f32) (t : Fin 4) (u : Fin 1) (i : Fin 7) (ch : Fin 8) (w : Fin 96) :
    shapeCast S4x1x7x8x96 v shapeCasts_S4x7x8x96_S4x1x7x8x96 (ix5 t u i ch w) = v (ix4 t i ch w) := by
  pointwise

/-- An element of the stacked depth bins is its bin's. -/
theorem dAll_apply (sd : BitVec 32) (seg : Fin 4 → Vec Ideal S4x7x3x8x96 .f32) (t : Fin 4) (n : Fin 4) (i : Fin 7) (ch : Fin 8) (w : Fin 96) :
    dAll (F := Ideal) sd seg (ix5 t n i ch w) = dStep sd (w32 n.val) (w32 (n.val + 1)) (seg n) (ix4 t i ch w) := by
  unfold dAll
  dsimp only
  generalize hv : dStep sd (w32 n.val) (w32 (n.val + 1)) (seg n) (ix4 t i ch w) = v
  concat_tiles j h
  · obtain rfl : n = 0 := Fin.ext h
    rw [idx5_eq (a := t) (b := 0) (c := i) (d := ch) (e := w) h0 h1 h2 h3 h4, dRow_apply]; exact hv
  · obtain rfl : n = 1 := Fin.ext h
    rw [idx5_eq (a := t) (b := 0) (c := i) (d := ch) (e := w) h0 h1 h2 h3 h4, dRow_apply]; exact hv
  · obtain rfl : n = 2 := Fin.ext h
    rw [idx5_eq (a := t) (b := 0) (c := i) (d := ch) (e := w) h0 h1 h2 h3 h4, dRow_apply]; exact hv
  · obtain rfl : n = 3 := Fin.ext h
    rw [idx5_eq (a := t) (b := 0) (c := i) (d := ch) (e := w) h0 h1 h2 h3 h4, dRow_apply]; exact hv

/-- A bound on a stacked height bin whose windows are read from `X`. -/
theorem hAll_le (x : Crop) (seg : Fin 7 → Vec Ideal S1x4x8x8x8x96 .f32) (t : Fin 4) (n : Fin 7) (e ch : Fin 8) (w : Fin 96) (X : Fin 96 → EReal)
    (hX : ∀ (r : Fin 8) (y : Fin 96), y.val = hOff x n.val + r.val → seg n (ix6 0 t r e ch w) = X y) (z : EReal) (hz : negZ ≤ z) :
    hAll (F := Ideal) (w32 x.h) (w32 x.sh) seg (ix5 t n e ch w) ≤ z
      ↔ ∀ y : Fin 96, x.h + binLo 7 x.sh n.val ≤ y.val ∧ y.val < x.h + binHi 7 x.sh n.val → X y ≤ z := by
  have hn : n.val ≤ 6 := by omega
  have hN : hOff x n.val + 8 ≤ 96 := by simp only [hOff]; omega
  rw [hAll_apply, hStep_le x hn _ z hz,
    ← window_iff hN (by simp only [hOff]; omega) (hWindow x hn) (fun y => X y ≤ z)]
  exact forall_congr' fun r => by rw [hX r ⟨hOff x n.val + r.val, by omega⟩ rfl]

/-- A bound on a stacked depth bin whose windows are read from `X`. -/
theorem dAll_le (x : Crop) (seg : Fin 4 → Vec Ideal S4x7x3x8x96 .f32) (t : Fin 4) (n : Fin 4) (i : Fin 7) (ch : Fin 8) (w : Fin 96) (X : Fin 8 → EReal)
    (hX : ∀ (r : Fin 3) (y : Fin 8), y.val = dOff x n.val + r.val → seg n (ix5 t i r ch w) = X y) (z : EReal) (hz : negZ ≤ z) :
    dAll (F := Ideal) (w32 x.sd) seg (ix5 t n i ch w) ≤ z
      ↔ ∀ q : Fin 8, binLo 4 x.sd n.val ≤ q.val ∧ q.val < binHi 4 x.sd n.val → X q ≤ z := by
  have hn : n.val ≤ 3 := by omega
  have hN : dOff x n.val + 3 ≤ 8 := by simp only [dOff]; omega
  rw [dAll_apply, dStep_le x hn _ z hz,
    ← window_iff hN (by simp only [dOff]; omega) (dWindow x hn) (fun y => X y ≤ z)]
  exact forall_congr' fun r => by rw [hX r ⟨dOff x n.val + r.val, by omega⟩ rfl]

end Cert.Roi
-- ==== Proof.Box.BlockValue.lean ====
/-
  What the box body leaves in its output block: each element is at most `z` exactly when every element of the point's
  crop inside its bins is, `z` being at least the most negative finite value.
-/
module

public import proofs.«01_k».proof.Proof.Box.Stack

@[expose] public section

set_option maxRecDepth 16384

noncomputable section

namespace Cert.Roi

open Cert.KernelIdeal Cert.KernelIdeal.Gen
open Idealize.ShloMosaic Idealize.ShloMosaic.TcCoe Idealize.ShloMosaic.Tactic

/-- The stored width bins, read at an element. -/
theorem wPieces_apply (w sw : BitVec 32) (x : FVec Ideal S4x4x7x8x96 .f32) (t j : Fin 4) (i : Fin 7) (ch : Fin 8) (n : Fin 7) :
    View.canon (wPieces (F := Ideal) w sw x) (ix5 t j i ch n) = wStep w sw (w32 n.val) (w32 (n.val + 1)) x (ix5 t j i ch 0) := by
  unfold wPieces
  generalize hv : wStep w sw (w32 n.val) (w32 (n.val + 1)) x (ix5 t j i ch 0) = v
  canon_tiles y h
  · obtain rfl : n = 6 := Fin.ext (by have : n.val = 6 + (y 4).val := h4; show n.val = 6; omega)
    rw [idx5_eq (a := t) (b := j) (c := i) (d := ch) (e := 0) h0.symm h1.symm h2.symm h3.symm (by show (y 4).val = 0; omega)]; exact hv
  · obtain rfl : n = 5 := Fin.ext (by have : n.val = 5 + (y 4).val := h4; show n.val = 5; omega)
    rw [idx5_eq (a := t) (b := j) (c := i) (d := ch) (e := 0) h0.symm h1.symm h2.symm h3.symm (by show (y 4).val = 0; omega)]; exact hv
  · obtain rfl : n = 4 := Fin.ext (by have : n.val = 4 + (y 4).val := h4; show n.val = 4; omega)
    rw [idx5_eq (a := t) (b := j) (c := i) (d := ch) (e := 0) h0.symm h1.symm h2.symm h3.symm (by show (y 4).val = 0; omega)]; exact hv
  · obtain rfl : n = 3 := Fin.ext (by have : n.val = 3 + (y 4).val := h4; show n.val = 3; omega)
    rw [idx5_eq (a := t) (b := j) (c := i) (d := ch) (e := 0) h0.symm h1.symm h2.symm h3.symm (by show (y 4).val = 0; omega)]; exact hv
  · obtain rfl : n = 2 := Fin.ext (by have : n.val = 2 + (y 4).val := h4; show n.val = 2; omega)
    rw [idx5_eq (a := t) (b := j) (c := i) (d := ch) (e := 0) h0.symm h1.symm h2.symm h3.symm (by show (y 4).val = 0; omega)]; exact hv
  · obtain rfl : n = 1 := Fin.ext (by have : n.val = 1 + (y 4).val := h4; show n.val = 1; omega)
    rw [idx5_eq (a := t) (b := j) (c := i) (d := ch) (e := 0) h0.symm h1.symm h2.symm h3.symm (by show (y 4).val = 0; omega)]; exact hv
  · obtain rfl : n = 0 := Fin.ext (by have : n.val = (y 4).val := h4; show n.val = 0; omega)
    rw [idx5_eq (a := t) (b := j) (c := i) (d := ch) (e := 0) h0.symm h1.symm h2.symm h3.symm (by show (y 4).val = 0; omega)]; exact hv

/-- One channel of the binned block, at an element. -/
theorem chan_apply (x : Vec Ideal S4x4x7x8x7 .f32) (o : Fin 8) (hs : S4x4x7x8x7.Slices ![0, 0, 0, o.val, 0] S4x4x7x1x7) (a b : Fin 1) (t j : Fin 4) (i n : Fin 7) :
    chan ![0, 0, 0, o.val, 0] hs x (ix6 a b t j i n) = x (ix5 t j i o n) := by
  revert hs; fin_cases o <;> intro hs <;> pointwise

/-- The channels' pieces read back, at an element. -/
theorem chanPieces_apply (x : Vec Ideal S4x4x7x8x7 .f32) (u : Fin 1) (ch : Fin 8) (t j : Fin 4) (i n : Fin 7) :
    View.canon (chanPieces (F := Ideal) x) (ix6 u ch t j i n) = x (ix5 t j i ch n) := by
  unfold chanPieces
  generalize hv : x (ix5 t j i ch n) = v
  have key (o : Fin 8) (hs : S4x4x7x8x7.Slices ![0, 0, 0, o.val, 0] S4x4x7x1x7) (y : S1x1x4x4x7x7.Idx) (h1 : ch.val = o.val)
      (h2 : t.val = (y 2).val) (h3 : j.val = (y 3).val) (h4 : i.val = (y 4).val) (h5 : n.val = (y 5).val) :
      chan ![0, 0, 0, o.val, 0] hs x y = v := by
    obtain rfl := Fin.ext h1
    rw [ValueIdx.eq_ix6 y]
    refine (chan_apply x ch hs _ _ _ _ _ _).trans (Eq.trans (congrArg x ?_) hv)
    exact (idx5_eq h2 h3 h4 rfl h5).symm
  canon_tiles y h
  · exact key 7 _ y (by have : ch.val = 7 + (y 1).val := h1; show ch.val = 7; omega) h2 h3 h4 h5
  · exact key 6 _ y (by have : ch.val = 6 + (y 1).val := h1; show ch.val = 6; omega) h2 h3 h4 h5
  · exact key 5 _ y (by have : ch.val = 5 + (y 1).val := h1; show ch.val = 5; omega) h2 h3 h4 h5
  · exact key 4 _ y (by have : ch.val = 4 + (y 1).val := h1; show ch.val = 4; omega) h2 h3 h4 h5
  · exact key 3 _ y (by have : ch.val = 3 + (y 1).val := h1; show ch.val = 3; omega) h2 h3 h4 h5
  · exact key 2 _ y (by have : ch.val = 2 + (y 1).val := h1; show ch.val = 2; omega) h2 h3 h4 h5
  · exact key 1 _ y (by have : ch.val = 1 + (y 1).val := h1; show ch.val = 1; omega) h2 h3 h4 h5
  · exact key 0 _ y (by have : ch.val = (y 1).val := h1; show ch.val = 0; omega) h2 h3 h4 h5

section

variable (c : Dev nD) (i : grid1.Coords) (arg3 : Memref sig .tc .vmem S1x4x96x16x8x96 .f32) (harg3 : arg3.IsWhole) (arg4 : Memref sig .tc .vmem S1x8x4x4x7x7 .f32) (harg4 : arg4.IsWhole) (arg5 : Memref sig .tc .vmem S4x7x8x8x96 .f32) (harg5 : arg5.IsWhole) (arg6 : Memref sig .tc .vmem S4x4x7x8x7 .f32) (harg6 : arg6.IsWhole)
  (x0 : Vec Ideal S1x4x96x16x8x96 .f32) (xt : TbBuf (F := Ideal) c tbM)
  (hw2 : k1_chk2 (word c xt (k1_off1 i) (k1_off1_inb i)) (word c xt (k1_off4 i) (k1_off4_inb i)))
  (hw1 : k1_chk1 (word c xt (k1_off1 i) (k1_off1_inb i)) (word c xt (k1_off2 i) (k1_off2_inb i)) (word c xt (k1_off5 i) (k1_off5_inb i)))
  {x : Crop} (hx : x.At (show Table from xt) (ptB i) (ptK i))
include hx

/-- A window of rows is read from the block at the window's start and the crop's depth. -/
theorem hSeg_apply (n : Fin 7) (t : Fin 4) (r e ch : Fin 8) (w : Fin 96) (y : Fin 96) (hy : y.val = hOff x n.val + r.val) (q : Fin 16) (hq : q.val = x.d + e.val) :
    hSeg c i arg3 harg3 x0 xt hw1 n (ix6 0 t r e ch w) = x0 (ix6 0 t y q ch w) := by
  have off : k1_off7 (word c xt (k1_off1 i) (k1_off1_inb i)) (word c xt (k1_off2 i) (k1_off2_inb i)) (word c xt (k1_off5 i) (k1_off5_inb i)) (w32 n.val)
      = ![0, 0, hOff x n.val, x.d, 0, 0] := by
    rw [word1 c i xt hx, word2 c i xt hx, word6 c i xt hx, off7_eq x (by omega)]
  unfold hSeg
  rw [View.readAt_apply, harg3.read_unread]
  refine congrArg x0 (funext fun z => Fin.ext ?_)
  refine ((Rect.idx_unit_val _ _ _ _ z).trans (congrArg (· + _) (congrFun off z))).trans ?_
  match z with
  | ⟨0, _⟩ => rfl
  | ⟨1, _⟩ => exact Nat.zero_add _
  | ⟨2, _⟩ => exact hy.symm
  | ⟨3, _⟩ => exact hq.symm
  | ⟨4, _⟩ => exact Nat.zero_add _
  | ⟨5, _⟩ => exact Nat.zero_add _

/-- A window of slices is read from the stacked height bins at the window's start. -/
theorem dSeg_apply (n : Fin 4) (t : Fin 4) (k : Fin 7) (r : Fin 3) (ch : Fin 8) (w : Fin 96) (q : Fin 8) (hq : q.val = dOff x n.val + r.val) :
    dSeg c i arg3 harg3 arg5 x0 xt hw2 hw1 n (ix5 t k r ch w) = hsVal c i arg3 harg3 x0 xt hw1 (ix5 t k q ch w) := by
  have off : k1_off8 (word c xt (k1_off1 i) (k1_off1_inb i)) (word c xt (k1_off4 i) (k1_off4_inb i)) (w32 n.val)
      = ![0, 0, dOff x n.val, 0, 0] := by
    rw [word1 c i xt hx, word5 c i xt hx, off8_eq x (by omega)]
  unfold dSeg
  rw [View.readAt_writes_junk_eq_canon, View.canon_cons_unit_lit' _ _ _ (by decide)]
  refine congrArg (hsVal c i arg3 harg3 x0 xt hw1) (funext fun z => Fin.ext ?_)
  refine ((Rect.idx_unit_val _ _ _ _ z).trans (congrArg (· + _) (congrFun off z))).trans ?_
  match z with
  | ⟨0, _⟩ => exact Nat.zero_add _
  | ⟨1, _⟩ => exact Nat.zero_add _
  | ⟨2, _⟩ => exact hq.symm
  | ⟨3, _⟩ => exact Nat.zero_add _
  | ⟨4, _⟩ => exact Nat.zero_add _

/-- A bound on a height bin. -/
theorem hsVal_le (t : Fin 4) (n : Fin 7) (e ch : Fin 8) (w : Fin 96) (z : EReal) (hz : negZ ≤ z) :
    hsVal c i arg3 harg3 x0 xt hw1 (ix5 t n e ch w) ≤ z
      ↔ ∀ y : Fin 96, x.h + binLo 7 x.sh n.val ≤ y.val ∧ y.val < x.h + binHi 7 x.sh n.val → x0 (ix6 0 t y ⟨x.d + e.val, by have := x.hd; omega⟩ ch w) ≤ z := by
  unfold hsVal
  rw [show wH (F := Ideal) c i xt = w32 x.h from word2 c i xt hx, wSH_eq c i xt hx]
  exact hAll_le x _ t n e ch w _ (fun r y hy => hSeg_apply c i arg3 harg3 x0 xt hw1 hx n t r e ch w y hy _ rfl) z hz

/-- A bound on a depth bin. -/
theorem dhVal_le (t j : Fin 4) (n : Fin 7) (ch : Fin 8) (w : Fin 96) (z : EReal) (hz : negZ ≤ z) :
    dhVal c i arg3 harg3 arg5 x0 xt hw2 hw1 (ix5 t j n ch w) ≤ z
      ↔ ∀ q : Fin 8, binLo 4 x.sd j.val ≤ q.val ∧ q.val < binHi 4 x.sd j.val →
        ∀ y : Fin 96, x.h + binLo 7 x.sh n.val ≤ y.val ∧ y.val < x.h + binHi 7 x.sh n.val → x0 (ix6 0 t y ⟨x.d + q.val, by have := x.hd; omega⟩ ch w) ≤ z := by
  unfold dhVal
  rw [wSD_eq c i xt hx, dAll_le x _ t j n ch w _ (fun r q hq => dSeg_apply c i arg3 harg3 arg5 x0 xt hw2 hw1 hx j t n r ch w q hq) z hz]
  exact forall_congr' fun q => imp_congr_right fun _ => hsVal_le c i arg3 harg3 x0 xt hw1 hx t n q ch w z hz

/-- The width bins read back, at an element. -/
theorem ddVal_apply (t j : Fin 4) (k : Fin 7) (ch : Fin 8) (n : Fin 7) :
    ddVal c i arg3 harg3 arg5 arg6 x0 xt hw2 hw1 (ix5 t j k ch n)
      = wStep (w32 x.w) (w32 x.sw) (w32 n.val) (w32 (n.val + 1)) (dhVal c i arg3 harg3 arg5 x0 xt hw2 hw1) (ix5 t j k ch 0) := by
  unfold ddVal
  rw [show wW (F := Ideal) c i xt = w32 x.w from word3 c i xt hx, wSW_eq c i xt hx, View.readCov_eq_canon']
  refine Eq.trans (congrArg (View.canon _) (idx5_eq ?_ ?_ ?_ ?_ ?_)) (wPieces_apply _ _ _ t j k ch n)
  all_goals exact (Rect.idx_unit_val _ _ _ _ _).trans (Nat.zero_add _)

/-- A bound on a width bin. -/
theorem ddVal_le (t j : Fin 4) (k : Fin 7) (ch : Fin 8) (n : Fin 7) (z : EReal) (hz : negZ ≤ z) :
    ddVal c i arg3 harg3 arg5 arg6 x0 xt hw2 hw1 (ix5 t j k ch n) ≤ z
      ↔ ∀ w : Fin 96, x.w + binLo 7 x.sw n.val ≤ w.val ∧ w.val < x.w + binHi 7 x.sw n.val →
        ∀ q : Fin 8, binLo 4 x.sd j.val ≤ q.val ∧ q.val < binHi 4 x.sd j.val →
        ∀ y : Fin 96, x.h + binLo 7 x.sh k.val ≤ y.val ∧ y.val < x.h + binHi 7 x.sh k.val → x0 (ix6 0 t y ⟨x.d + q.val, by have := x.hd; omega⟩ ch w) ≤ z := by
  rw [ddVal_apply c i arg3 harg3 arg5 arg6 x0 xt hw2 hw1 hx, wStep_le x (by omega) _ z hz]
  exact forall_congr' fun w => imp_congr_right fun _ => dhVal_le c i arg3 harg3 arg5 x0 xt hw2 hw1 hx t j k ch w z hz

theorem neg_le_ddVal (t j : Fin 4) (k : Fin 7) (ch : Fin 8) (n : Fin 7) :
    negZ ≤ ddVal c i arg3 harg3 arg5 arg6 x0 xt hw2 hw1 (ix5 t j k ch n) := by
  rw [ddVal_apply c i arg3 harg3 arg5 arg6 x0 xt hw2 hw1 hx]
  exact neg_le_wStep x (by omega) _ t j k ch 0

end

end Cert.Roi
-- ==== Proof.Box.Pool.lean ====
/-
  The pooling region: what one block of it leaves in its output buffer, and its proof data at any entry contents.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One block -/

/-- The whole of the input block. -/
abbrev poolIn : Rect S1x8x8x16x24x96 := Rect.unit (s := S1x8x8x16x24x96) ![0, 0, 0, 0, 0, 0] S1x8x8x16x24x96.size inb_S1x8x8x16x24x96_S1x8x8x16x24x96_0_0_0_0_0_0
/-- The four time slots of the output block. -/
abbrev poolSlot0 : Rect S1x4x24x16x8x96 := Rect.unit (s := S1x4x24x16x8x96) ![0, 0, 0, 0, 0, 0] S1x1x24x16x8x96.size inb_S1x4x24x16x8x96_S1x1x24x16x8x96_0_0_0_0_0_0
abbrev poolSlot1 : Rect S1x4x24x16x8x96 := Rect.unit (s := S1x4x24x16x8x96) ![0, 1, 0, 0, 0, 0] S1x1x24x16x8x96.size inb_S1x4x24x16x8x96_S1x1x24x16x8x96_0_1_0_0_0_0
abbrev poolSlot2 : Rect S1x4x24x16x8x96 := Rect.unit (s := S1x4x24x16x8x96) ![0, 2, 0, 0, 0, 0] S1x1x24x16x8x96.size inb_S1x4x24x16x8x96_S1x1x24x16x8x96_0_2_0_0_0_0
abbrev poolSlot3 : Rect S1x4x24x16x8x96 := Rect.unit (s := S1x4x24x16x8x96) ![0, 3, 0, 0, 0, 0] S1x1x24x16x8x96.size inb_S1x4x24x16x8x96_S1x1x24x16x8x96_0_3_0_0_0_0

/-- What one run of the pooling body leaves in its output block, from its input block: one store per time slot. -/
def poolOut (x : Vec F S1x8x8x16x24x96 .f32) : Vec F S1x4x24x16x8x96 .f32 :=
  View.canon [⟨poolSlot3, k0_pay1 (k0_pay2 (View.ld x poolIn)) (k0_pay6 (View.ld x poolIn))⟩,
    ⟨poolSlot2, k0_pay5 (View.ld x poolIn)⟩, ⟨poolSlot1, k0_pay4 (View.ld x poolIn)⟩, ⟨poolSlot0, k0_pay3 (View.ld x poolIn)⟩]

/-- The four slots cover the output block. -/
theorem pool_cover (p0 p1 p2 p3 : Vec F S1x1x24x16x8x96 .f32) (y : S1x4x24x16x8x96.Idx) :
    ∃ pc ∈ ([⟨poolSlot3, p0⟩, ⟨poolSlot2, p1⟩, ⟨poolSlot1, p2⟩, ⟨poolSlot0, p3⟩] : List (View.Piece (Elt F) S1x4x24x16x8x96 .f32)), y ∈ pc.1.set :=
  View.cover_of_tiled [⟨poolSlot3, p0⟩, ⟨poolSlot2, p1⟩, ⟨poolSlot1, p2⟩, ⟨poolSlot0, p3⟩] S1x1x24x16x8x96.size (by rfl) y

set_option maxHeartbeats 1000000 in
/-- The pooling body on whole memrefs: the input ends as it was, the output at `poolOut` of it. -/
theorem pool_triple (c : Dev nD) (E : Set ℕ) (i : grid0.Coords) (arg3 : Memref sig .tc .vmem S1x8x8x16x24x96 .f32) (harg3 : arg3.IsWhole)
    (arg4 : Memref sig .tc .vmem S1x4x24x16x8x96 .f32) (harg4 : arg4.IsWhole) (x : Vec F S1x8x8x16x24x96 .f32) (K : PUnit → sProp 𝕄) :
    iprop(owns (c : Thread nD τ) arg3 fullShare x ∗ (∃ d, owns (c : Thread nD τ) arg4 fullShare d)
        ∗ (iprop(owns (c : Thread nD τ) arg3 fullShare x ∗ owns (c : Thread nD τ) arg4 fullShare (poolOut x)) -∗ K ⟨⟩))
      ⊢ wp frame (wpE (defs₀ (F := F)) Variants.none c none) E (cc0_roialign4d_tpool i arg3 harg3 arg4 harg4) K := by
  simp only [cc0_roialign4d_tpool_eq_skeleton]; unfold cc0_roialign4d_tpool_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (pool_cover _ _ _ _)

/-! ## The region's proof data, at the entry contents `V` -/

section

variable (V : (c : Dev nD) → (b : Ref sig .tc) → Buf (Elt F) ((c : Thread nD τ).loc b))

/-- A window's block at a point, read from its array at the region's entry. -/
def poolBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pooling region's proof data: arrays as found, each input block left in place, each output block at `poolOut`. -/
def poolDat (c : Dev nD) : Dat τ (Elt F) Unit ℕ (UR sig nD τ) ℕ cfg0 c where
  A w := V c (Pipeline.arrRef spec0 w)
  after w t := match w with
    | ⟨0, _⟩ => poolBlk V c 0 t
    | ⟨1, _⟩ => poolOut (poolBlk V c 0 t)
  Φ _ := Pipeline.ΦA spec0 c
  q _ := fullShare
  owed _ := 0

/-- The proof data's arrays are the entry contents. -/
theorem poolDat_A (c : Dev nD) (w : Fin cfg0.W) : (poolDat V c).A w = V c (Pipeline.arrRef spec0 w) := by
  dsimp only [poolDat]
/-- The body leaves its input block in place. -/
theorem poolDat_after_in (c : Dev nD) (t : Fin cfg0.N) : (poolDat V c).after 0 t = poolBlk V c 0 t := by dsimp only [poolDat]
/-- The body leaves `poolOut` of its input block in its output. -/
theorem poolDat_after_out (c : Dev nD) (t : Fin cfg0.N) : (poolDat V c).after 1 t = poolOut (poolBlk V c 0 t) := by dsimp only [poolDat]

/-- Before the body the input's buffer holds its block. -/
theorem poolDat_before (c : Dev nD) (t : Fin cfg0.N) (d) : (poolDat V c).before 0 t d = poolBlk V c 0 t :=
  ((poolDat V c).before_in_eq_fetched 0 rfl (fun _ => rfl) (fun _ _ _ => rfl)
    (fun t => by rw [poolDat_after_in]; unfold Dat.blockOf poolBlk; rw [poolDat_A]; try rfl) t d).trans
    (by unfold Dat.fetched Dat.blockOf poolBlk; rw [poolDat_A]; try rfl)

/-- What the body is called with at a point. -/
def poolPre (c : Dev nD) (t : Fin cfg0.N) : sProp 𝕄 :=
  iprop((poolDat V c).Φ t.castSucc ∗ (poolDat V c).owesAt () t.castSucc
    ∗ (∃ d, owns (c : Thread nD τ) (st0_0 t) fullShare ((poolDat V c).before 0 t d))
    ∗ (∃ d, owns (c : Thread nD τ) (st0_1 t) fullShare ((poolDat V c).before 1 t d)))

/-- What it returns. -/
def poolPost (c : Dev nD) (t : Fin cfg0.N) : sProp 𝕄 :=
  iprop((poolDat V c).Φ t.succ ∗ (poolDat V c).owesAt () t.succ
    ∗ owns (c : Thread nD τ) (st0_0 t) fullShare ((poolDat V c).after 0 t)
    ∗ owns (c : Thread nD τ) (st0_1 t) fullShare ((poolDat V c).after 1 t))

/-- The body at any point. -/
theorem pool_body (c : Dev nD) (t : Fin cfg0.N) :
    poolPre V c t ⊢ wp frame (wpE (defs₀ (F := F)) Variants.none c none) Set.univ (bodyAt0 t) (fun _ => poolPost V c t) := by
  unfold poolPre poolPost bodyAt0
  simp only [poolDat_before]
  rw [show (poolDat V c).Φ t.succ = (poolDat V c).Φ t.castSucc from rfl,
    show (poolDat V c).owesAt () t.succ = (poolDat V c).owesAt () t.castSucc from rfl, poolDat_after_in, poolDat_after_out]
  iintro ⟨HΦ, Ho, ⟨%d0, H0⟩, ⟨%d1, H1⟩⟩
  iapply (pool_triple c Set.univ (grid0.coords t) _ _ _ _ (poolBlk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at a point. -/
theorem pool_row (t : Fin cfg0.N) : defs₀ (F := F) .tc cfg0.body (cfg0.bodyArgs t (cfg0.slots t)) = bodyAt0 t := by
  unfold defs₀; rw [Defs.onTc_tc]

/-- The region's body obligation. -/
theorem pool_obligation (c : Dev nD) : BodyObligation (poolDat (F := F) V c) (defs₀ (F := F)) Variants.none () Set.univ := fun t => by
  rw [bigSep_W0, bigSep_W0, pool_row]
  exact triple_restated (pool_body V c t) rfl .rfl fun _ => .rfl

end

end Cert.Roi

end

end
-- ==== Proof.Box.PoolValue.lean ====
/-
  What the pooling region leaves: each element is the larger of two successive frames, and the array of the whole run is
  that of the features.
-/
module

public import proofs.«01_k».proof.Proof.Box.Pool
public import Idealize.ShloMosaic.Lib.Pointwise
public import Idealize.ShloMosaic.Lib.Pipeline.ValueKit
public import Idealize.ShloMosaic.Lib.Tactic

@[expose] public section

set_option maxRecDepth 16384

noncomputable section

namespace Cert.Roi

open Cert.KernelIdeal Cert.KernelIdeal.Gen
open Idealize.ShloMosaic Idealize.ShloMosaic.TcCoe Idealize.ShloMosaic.Tactic

/-- The pooled frames of a block: at each place the larger of two successive frames. -/
def framePair (x : Vec Ideal S1x8x8x16x24x96 .f32) (t : Fin 4) (y : Fin 24) (d : Fin 16) (ch : Fin 8) (w : Fin 96) : EReal :=
  max (x (ix6 0 ch ⟨2 * t.val, by omega⟩ d y w)) (x (ix6 0 ch ⟨2 * t.val + 1, by omega⟩ d y w))

theorem ld_poolIn (x : Vec Ideal S1x8x8x16x24x96 .f32) : View.ld x poolIn = x :=
  View.ld_unit_lit' _ x (by decide)

theorem slot0_apply (x : Vec Ideal S1x8x8x16x24x96 .f32) (a b : Fin 1) (y : Fin 24) (d : Fin 16) (ch : Fin 8) (w : Fin 96) :
    k0_pay3 x (ix6 a b y d ch w) = framePair x 0 y d ch w := by
  unfold k0_pay3 k0_pay2; pointwise; rfl
theorem slot1_apply (x : Vec Ideal S1x8x8x16x24x96 .f32) (a b : Fin 1) (y : Fin 24) (d : Fin 16) (ch : Fin 8) (w : Fin 96) :
    k0_pay4 x (ix6 a b y d ch w) = framePair x 1 y d ch w := by
  unfold k0_pay4 k0_pay2; pointwise; rfl
theorem slot2_apply (x : Vec Ideal S1x8x8x16x24x96 .f32) (a b : Fin 1) (y : Fin 24) (d : Fin 16) (ch : Fin 8) (w : Fin 96) :
    k0_pay5 x (ix6 a b y d ch w) = framePair x 2 y d ch w := by
  unfold k0_pay5 k0_pay2; pointwise; rfl
theorem slot3_apply (x : Vec Ideal S1x8x8x16x24x96 .f32) (a b : Fin 1) (y : Fin 24) (d : Fin 16) (ch : Fin 8) (w : Fin 96) :
    k0_pay1 (k0_pay2 x) (k0_pay6 x) (ix6 a b y d ch w) = framePair x 3 y d ch w := by
  unfold k0_pay1 k0_pay6 k0_pay2; pointwise; rfl

theorem framePair_congr (x : Vec Ideal S1x8x8x16x24x96 .f32) {t t' : Fin 4} {y y' : Fin 24} {d d' : Fin 16} {ch ch' : Fin 8} {w w' : Fin 96}
    (ht : t'.val = t.val) (hy : y'.val = y.val) (hd : d'.val = d.val) (hc : ch'.val = ch.val) (hw : w'.val = w.val) :
    framePair x t y d ch w = framePair x t' y' d' ch' w' := by
  obtain rfl := Fin.ext ht; obtain rfl := Fin.ext hy; obtain rfl := Fin.ext hd; obtain rfl := Fin.ext hc; obtain rfl := Fin.ext hw
  rfl

/-- An element of a block the pooling body leaves. -/
theorem poolOut_apply (x : Vec Ideal S1x8x8x16x24x96 .f32) (j : S1x4x24x16x8x96.Idx) :
    poolOut x j = framePair x (j 1) (j 2) (j 3) (j 4) (j 5) := by
  unfold poolOut
  rw [ld_poolIn]
  canon_tiles i h
  · rw [ValueIdx.eq_ix6 i]
    exact (slot3_apply x _ _ _ _ _ _).trans (framePair_congr x (by show (j 1).val = 3; omega) h2 h3 h4 h5)
  · rw [ValueIdx.eq_ix6 i]
    exact (slot2_apply x _ _ _ _ _ _).trans (framePair_congr x (by show (j 1).val = 2; omega) h2 h3 h4 h5)
  · rw [ValueIdx.eq_ix6 i]
    exact (slot1_apply x _ _ _ _ _ _).trans (framePair_congr x (by show (j 1).val = 1; omega) h2 h3 h4 h5)
  · rw [ValueIdx.eq_ix6 i]
    exact (slot0_apply x _ _ _ _ _ _).trans (framePair_congr x (by show (j 1).val = 0; omega) h2 h3 h4 h5)

end Cert.Roi
-- ==== Proof.Box.Launch.lean ====
/-
  The launch: the two regions in order, from the launch memory to the return. The result's buffer ends at what the box
  region's write-backs leave over what the pooling region's leave; the arguments end as launched; every counter at zero.
-/
module

public import proofs.«01_k».proof.Proof.Box.Pool
public import proofs.«01_k».proof.Proof.Box.Data
public import Idealize.ShloMosaic.Lib.Pipeline.RegionsLoop
public import Idealize.ShloMosaic.Lib.Pipeline.RegionArraysT

@[expose] public section

set_option maxRecDepth 16384

noncomputable section

namespace Cert.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each boundary -/

/-- The arguments' references. -/
abbrev argRefs : List (Ref sig .tc) := [main_arg0, main_arg1]

/-- The table of boxes as launched. -/
def tbl : pre1.Contents (Elt F) := fun j => m (((0 : Dev nD) : Thread nD τ).loc (pre1.ref j))

/-- The buffers at launch. -/
abbrev C0 : Dev nD → Valuation τ sig (Elt F) := fun c b => m (c, b)
/-- The same at the TensorCore's references. -/
abbrev B0 : (c : Dev nD) → (b : Ref sig .tc) → Buf (Elt F) ((c : Thread nD τ).loc b) := fun c b => C0 m c b

/-- The buffers between the regions. -/
def C1 (c : Dev nD) : Valuation τ sig (Elt F) :=
  Pipeline.withArrays spec0 c (C0 m c) fun w => (poolDat (B0 m) c).arrAt w cfg0.N
theorem C1_arr (c : Dev nD) (w : Fin cfg0.W) :
    C1 m c (Proc.devRef .tc (Pipeline.arrRef spec0 w)) = (poolDat (B0 m) c).arrAt w cfg0.N := by
  unfold C1; exact Pipeline.withArrays_arr spec0 (launch0 (F := F)).win.arr_inj c _ _ w
theorem C1_of_ne (c : Dev nD) (b : Ref sig .tc) (hb : ∀ w, Pipeline.arrRef spec0 w ≠ b) :
    C1 m c (Proc.devRef .tc b) = C0 m c (Proc.devRef .tc b) := by
  unfold C1; exact Pipeline.withArrays_of_ne spec0 c _ _ b hb
/-- A buffer the pooling region does not write keeps its contents. -/
theorem C1_of (c : Dev nD) (r : Ref sig .tc) (h : ∀ w : Fin cfg0.W, Pipeline.arrRef spec0 w = r → (cfg0.win w).isOut = false) :
    C1 m c (Proc.devRef .tc r) = C0 m c (Proc.devRef .tc r) := by
  by_cases hw : ∃ w : Fin cfg0.W, Pipeline.arrRef spec0 w = r
  · obtain ⟨w, rfl⟩ := hw
    exact (C1_arr m c w).trans (((poolDat (B0 m) c).arrAt_in w (h w rfl) _).trans (poolDat_A (B0 m) c w))
  · exact C1_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem C1_args (c : Dev nD) : ∀ a ∈ argRefs, C1 m c (Proc.devRef .tc a) = m ((c : Thread nD τ).loc a) :=
  fun a ha => C1_of m c a (argsIn0 a ha)
/-- The same at the TensorCore's references. -/
abbrev B1 : (c : Dev nD) → (b : Ref sig .tc) → Buf (Elt F) ((c : Thread nD τ).loc b) := fun c b => C1 m c b
theorem C1_exit (c : Dev nD) (w : Fin cfg0.W) : (poolDat (B0 m) c).arrAt w cfg0.N = B1 m c (Pipeline.arrRef spec0 w) :=
  (C1_arr m c w).symm
theorem C1_rest (c : Dev nD) : ∀ b, b ∉ Finset.univ.image (Pipeline.arrRef spec0) → B1 m c b = B0 m c b :=
  fun b hb => C1_of_ne m c b fun w e => hb (Finset.mem_image.mpr ⟨w, Finset.mem_univ _, e⟩)

/-- Between the regions the table is as launched. -/
theorem B1_tbl (c : Dev nD) (k : Fin pre1.K) : tbl m k = B1 m c (pre1.ref k) := by
  obtain rfl : c = 0 := Subsingleton.elim _ _
  obtain rfl : k = 0 := Subsingleton.elim (α := Fin 1) _ _
  exact (C1_args m 0 main_arg1 (by decide)).symm

section

variable (hT : Checked (tbl m))

/-- The buffers at the return. -/
def C2 (c : Dev nD) : Valuation τ sig (Elt F) :=
  Pipeline.withArrays spec1 c (C1 m c) fun w => (boxDat (B1 m) (tbl m) hT c).arrAt w (cfg1 (admT (tbl m))).N
theorem C2_arr (c : Dev nD) (w : Fin 2) :
    C2 m hT c (Proc.devRef .tc (Pipeline.arrRef spec1 w)) = (boxDat (B1 m) (tbl m) hT c).arrAt w (cfg1 (admT (tbl m))).N := by
  unfold C2; exact Pipeline.withArrays_arr spec1 (launch1 (F := F)).win.arr_inj c _ _ w
theorem C2_of_ne (c : Dev nD) (b : Ref sig .tc) (hb : ∀ w, Pipeline.arrRef spec1 w ≠ b) :
    C2 m hT c (Proc.devRef .tc b) = C1 m c (Proc.devRef .tc b) := by
  unfold C2; exact Pipeline.withArrays_of_ne spec1 c _ _ b hb
/-- No argument is one of the box region's arrays. -/
theorem args_ne1 : ∀ a ∈ argRefs, ∀ w : Fin 2, Pipeline.arrRef spec1 w ≠ a :=
  ListAll.forall_mem_of_all_decide (by decide +kernel)
theorem C2_args (c : Dev nD) : ∀ a ∈ argRefs, C2 m hT c (Proc.devRef .tc a) = m ((c : Thread nD τ).loc a) :=
  fun a ha => (C2_of_ne m hT c a (args_ne1 a ha)).trans (C1_args m c a ha)
/-- The same at the TensorCore's references. -/
abbrev B2 : (c : Dev nD) → (b : Ref sig .tc) → Buf (Elt F) ((c : Thread nD τ).loc b) := fun c b => C2 m hT c b
theorem C2_exit (c : Dev nD) (w : Fin 2) : (boxDat (B1 m) (tbl m) hT c).arrAt w (cfg1 (admT (tbl m))).N = B2 m hT c (Pipeline.arrRef spec1 w) :=
  (C2_arr m hT c w).symm
theorem C2_rest (c : Dev nD) : ∀ b, b ∉ Finset.univ.image (Pipeline.arrRef spec1) → B2 m hT c b = B1 m c b :=
  fun b hb => C2_of_ne m hT c b fun w e => hb (Finset.mem_image.mpr ⟨w, Finset.mem_univ _, e⟩)

/-- What the run leaves in the result's buffer. -/
def result (c : Dev nD) : Buf (Elt F) ((c : Thread nD τ).loc main_v1) :=
  (boxDat (B1 m) (tbl m) hT c).arrAt 1 (cfg1 (admT (tbl m))).N

/-! ## The regions as segments -/

/-- The tables' contents of both pipelines: the pooling region has none, the box region the boxes. -/
abbrev adm : (p : Fin 2) → (pcfgs (F := F) p).Adm
  | ⟨0, _⟩ => cfg0.toPCfg_adm
  | ⟨1, _⟩ => admT (tbl m)

/-- Both pipelines' proof data, each at its region's entry contents. -/
def pdats : (p : Fin 2) → (c : Dev nD) → Dat τ (Elt F) Unit ℕ (UR sig nD τ) ℕ (Pipeline.pin (pcfgs (F := F)) (adm m) p) c
  | ⟨0, _⟩ => fun c => poolDat (B0 m) c
  | ⟨1, _⟩ => fun c => boxDat (B1 m) (tbl m) hT c

/-- No core owes another anything. -/
abbrev lvls : GSem nD τ sig → Finset Unit := fun _ => ∅
abbrev lvl : GSem nD τ sig → Unit → ℕ := fun _ _ => 0
/-- What rides beside the buffers: the generator register at some state, and nothing owed. -/
abbrev ride (c : Dev nD) : sProp 𝕄 := iprop((∃ r, prngReg c r) ∗ ∃ W, owes (c : Thread nD τ) (0 : CellTallies nD τ sig Unit) W)

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every unscoped buffer at `C2`, the generator register at some state. -/
abbrev lastSt (c : Dev nD) : sProp 𝕄 := iprop(StableHlo.held (c : Thread nD τ) (Pipeline.ucRefs τ sig) (C2 m hT c) ∗ ∃ r, prngReg c r)

set_option backward.isDefEq.respectTransparency.types false in
/-- The pooling region over the unscoped buffers. -/
def seg0 : Pipeline.RegionSeg (pcfgs (F := F)) (adm m) (pdats m hT) () defs₀ Variants.none lvls lvl 0 where
  win := (launch0 (F := F)).win.to₀
  block_pos := (launch0 (F := F)).block_pos
  stage_whole := (launch0 (F := F)).stage_whole
  K := PEmpty
  osem k := k.elim
  ho := Pipeline.OwnSemFacts.none _
  hbody c := (pool_obligation (B0 m) c).loose
  hwaits := Pipeline.hwaits_of_owed_zero _ _ _ _ lvls lvl 0 fun _ _ => rfl
  pre c := iprop(StableHlo.held (c : Thread nD τ) (Pipeline.ucRefs τ sig) (C0 m c) ∗ ride c)
  post c := iprop(StableHlo.held (c : Thread nD τ) (Pipeline.ucRefs τ sig) (C1 m c) ∗ ride c)
  X c := iprop(∃ r, prngReg c r)
  Y c := iprop(∃ r, prngReg c r)
  Z c := Pipeline.unscopedRest (Ix := Unit) (Name := ℕ) (U := UR sig nD τ) (Lvl := ℕ) spec0 c (B0 m c)
  hentry c := by
    rw [Pipeline.ownSems0_none]
    have hsplit := Pipeline.arrays_of_unscopedBufs (p := 0) (pcfgs (F := F)) (adm m) (pdats m hT) (launch0 (F := F)).win (launch0 (F := F)).arr_whole c
      ((pdats m hT 0 c).share_full fun _ => rfl) (B0 m c) (poolDat_A (B0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hT 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hT 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m hT) ((pdats m hT 0 c).share_full fun _ => rfl)
      (B0 m c) (B1 m c) ((pdats m hT 0 c).arrAt · (cfg0).N) (C1_exit m c) (C1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The buffers no window of the box region stages: the table and the rest. -/
theorem rest_split (c : Dev nD) (V : (b : Ref sig .tc) → Buf (Elt F) ((c : Thread nD τ).loc b)) :
    (Pipeline.unscopedRest (Ix := Unit) (Name := ℕ) (U := UR sig nD τ) (Lvl := ℕ) spec1 c V : sProp 𝕄)
      = iprop(tbPt c tbM (V main_arg1) ∗ ((c : Thread nD τ).loc main_arg0) ↦{fullShare} V main_arg0) :=
  Pipeline.unscopedRest_eq_of_list spec1 c V [main_arg1, main_arg0] (by decide) (by decide)

/-- The tables held whole are the one table. -/
theorem tables_eq (c : Dev nD) (T : pre1.Contents (Elt F)) :
    (Pipeline.prefHeld pre1 c (fun _ => fullShare) T : sProp 𝕄) = tbPt c tbM (T 0) := by
  unfold Pipeline.prefHeld
  rw [show (Finset.univ : Finset (Fin 1)) = {(0 : Fin 1)} from by decide, bigSep_singleton]
  rfl

set_option backward.isDefEq.respectTransparency.types false in
/-- The box region over the unscoped buffers: the table goes through its invariant and comes back. -/
def seg1 : Pipeline.RegionSeg (pcfgs (F := F)) (adm m) (pdats m hT) () defs₀ Variants.none lvls lvl 1 where
  win := (launch1 (F := F)).win.to₀
  block_pos := (launch1 (F := F)).block_pos
  stage_whole := (launch1 (F := F)).stage_whole
  K := PEmpty
  osem k := k.elim
  ho := Pipeline.OwnSemFacts.none _
  hbody c := (box_obligation (B1 m) (tbl m) hT c).loose
  hwaits := Pipeline.hwaits_of_owed_zero _ _ _ _ lvls lvl 1 fun _ _ => rfl
  pre c := iprop(StableHlo.held (c : Thread nD τ) (Pipeline.ucRefs τ sig) (C1 m c) ∗ ride c)
  post c := iprop(lastSt m hT c ∗ ∃ W, owes (c : Thread nD τ) (0 : CellTallies nD τ sig Unit) W)
  X c := iprop(∃ r, prngReg c r)
  Y c := iprop((∃ r, prngReg c r) ∗ tbPt c tbM (tbl m 0))
  Z c := iprop(((c : Thread nD τ).loc main_arg0) ↦{fullShare} B1 m c main_arg0)
  hentry c := by
    rw [Pipeline.ownSems0_none]
    have hsplit := Pipeline.arrays_of_unscopedBufs (p := 1) (pcfgs (F := F)) (adm m) (pdats m hT) (launch1 (F := F)).win (launch1 (F := F)).arr_whole c
      ((pdats m hT 1 c).share_full fun _ => rfl) (B1 m c) (boxDat_A (B1 m) (tbl m) hT c)
    rw [Pipeline.unscopedBufs_held, show (Pipeline.unscopedRest (Ix := Unit) (Name := ℕ) (U := UR sig nD τ) (Lvl := ℕ) ((pcfgs (F := F)) 1).spec c (B1 m c) : sProp 𝕄) = _ from rest_split c (B1 m c)] at hsplit
    iintro ⟨⟨Hub, Hp, HO⟩, -, -⟩
    ihave H := hsplit $$ Hub
    icases H with ⟨Ha, Ht, Hrest⟩
    imodintro
    isplitl [Ha]; · iexact Ha
    isplitl [Ht]
    · iapply (show (tbPt c tbM (B1 m c main_arg1) : sProp 𝕄) ⊢ Pipeline.prefHeld pre1 c (fun _ => fullShare) (tbl m) from by
        rw [tables_eq, show tbl m 0 = B1 m c main_arg1 from B1_tbl m c 0])
      iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hT 1 c).Φ 0 = iprop(Pipeline.ΦA spec1 c ∗ tbPt c tbM (tbl m 0)) from rfl]; unfold Pipeline.ΦA
    iintro ⟨Hp, Ht, Hr⟩
    isplitr [Ht]
    · isplitl [Hr]; · iexact Hr
      iexact Hp
    iapply (show (Pipeline.prefHeld pre1 c (fun _ => fullShare) (tbl m) : sProp 𝕄) ⊢ tbPt c tbM (tbl m 0) from by rw [tables_eq])
    iexact Ht
  hout c := by
    rw [Pipeline.ownSems0_none, show (pdats m hT 1 c).Φ (Fin.last _) = iprop(Pipeline.ΦA spec1 c ∗ tbPt c tbM (tbl m 0)) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m hT) ((pdats m hT 1 c).share_full fun _ => rfl)
      (B1 m c) (B2 m hT c) ((pdats m hT 1 c).arrAt · (cfg1 (admT (tbl m))).N) (C2_exit m hT c) (C2_rest m hT c)
    rw [Pipeline.unscopedBufs_held, show (Pipeline.unscopedRest (Ix := Unit) (Name := ℕ) (U := UR sig nD τ) (Lvl := ℕ) ((pcfgs (F := F)) 1).spec c (B1 m c) : sProp 𝕄) = _ from rest_split c (B1 m c)] at hjoin
    iintro ⟨Ha, HO, ⟨HY, Ht⟩, Hrest⟩
    imodintro
    isplitl [Ha Hrest HY Ht]
    · isplitl [Ha Hrest Ht]
      · iapply hjoin
        isplitl [Ha]; · iexact Ha
        isplitl [Ht]
        · iapply (show (tbPt c tbM (tbl m 0) : sProp 𝕄) ⊢ tbPt c tbM (B1 m c main_arg1) from by rw [show tbl m 0 = B1 m c main_arg1 from B1_tbl m c 0])
          iexact Ht
        iexact Hrest
      iexact HY
    unfold Pipeline.Dat.owesAt Pipeline.owesWithin
    icases HO with ⟨%W, -, HO⟩; iexists W; iexact HO

/-! ## The run -/

/-- The two regions in order. -/
abbrev segs : List (Pipeline.Seg (pcfgs (F := F)) (adm m) (pdats m hT) () defs₀ Variants.none lvls lvl) :=
  [ .region (seg0 m hT), .region (seg1 m hT) ]
/-- The program is the run of the segments. -/
theorem main_run (c : Dev nD) : main (F := F) c = Pipeline.Seg.run (segs m hT) := (main_chain c).trans (by chain_rfl)

theorem no_unscoped : ∀ sm : SemLoc sig, sm.isScoped .tc = true := by decide

set_option backward.isDefEq.respectTransparency.types false in
/-- Every weakly fair execution from any memory whose table passes the checks terminates, with the result's buffer at
    `result`, the arguments as launched and every counter at zero. -/
theorem run : θ_run defs (onTc (τ := τ) (main (F := F))) ⟨m, fun _ => 0, ρ⟩ (fun r => (∀ c : Dev nD,
      r.2.mem ((c.tc : Thread nD τ).loc main_v1) = result m hT c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) (adm m) (pdats m hT) () (cellOf_inj (adm m)) emb₁ defs₀ Variants.none lvls lvl m ρ main (segs m hT)
    (fun c Q => by rw [main_run m hT c])
    (by simp only [segs, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (C0 m c) ∗ ride c)) (Tₙ := lastSt m hT)
    (hch := ⟨fun _ => .rfl, fun _ => .rfl, fun _ => .rfl⟩)
    (hinit := by
      refine Pipeline.initEach lvls lvl fun c => ?_
      rw [show unscopedBufs c (fun b => m ((c : Thread nD τ).loc b)) = StableHlo.held (c : Thread nD τ) (Pipeline.ucRefs τ sig) (C0 m c)
        from Pipeline.unscopedBufs_held c (C0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = C2 m hT c b)
    (hfin := fun c s' => by
      iintro ⟨⟨Hh, -⟩, HSI⟩
      unfold StableHlo.held
      imodintro
      iapply (pointsTo_read_all (Pipeline.ucRefs τ sig) (fun b => (((c : Thread nD τ)).1, b)) (C2 m hT c) s')
      isplitl [Hh] <;> iassumption)
    (hQ := fun s h hz => ⟨(fun c =>
      ⟨(h c _ (mem_unscoped main_v1 (by decide))).trans (C2_arr m hT c 1),
       (h c _ (mem_unscoped main_arg0 (by decide))).trans (C2_args m hT c main_arg0 (by decide)),
       (h c _ (mem_unscoped main_arg1 (by decide))).trans (C2_args m hT c main_arg1 (by decide))⟩), funext fun g => hz g (.inr (no_unscoped g.2))⟩)

end

end Cert.Roi

end

end
-- ==== Proof.Box.PoolArray.lean ====
/-
  The array the pooling region leaves: at each place the larger of two successive frames of the features.
-/
module

public import proofs.«01_k».proof.Proof.Box.PoolValue
public import proofs.«01_k».proof.Proof.Box.Launch

@[expose] public section

set_option maxRecDepth 16384

noncomputable section

namespace Cert.Roi

open Cert.KernelIdeal Cert.KernelIdeal.Gen
open Idealize.ShloMosaic Idealize.ShloMosaic.TcCoe Idealize.ShloMosaic.Tactic

/-- The features pooled in pairs of frames, channels beside lanes. -/
def pooled (f : Vec Ideal S2x32x8x16x96x96 .f32) : Vec Ideal S2x4x96x16x32x96 .f32 := fun i =>
  max (f (ix6 (show Fin 2 from i 0) (show Fin 32 from i 4) ⟨2 * (i 1).val, by have : (i 1).val < 4 := (i 1).isLt; omega⟩ (show Fin 16 from i 3) (show Fin 96 from i 2) (show Fin 96 from i 5)))
    (f (ix6 (show Fin 2 from i 0) (show Fin 32 from i 4) ⟨2 * (i 1).val + 1, by have : (i 1).val < 4 := (i 1).isLt; omega⟩ (show Fin 16 from i 3) (show Fin 96 from i 2) (show Fin 96 from i 5)))

theorem poolIn_index : ∀ t : Fin grid0.N, win0_0.index t = ![(grid0.coords t 0).val, (grid0.coords t 1).val, 0, 0, (grid0.coords t 2).val, 0] := by
  decide +kernel
theorem poolOut_index : ∀ t : Fin grid0.N, win0_1.index t = ![(grid0.coords t 0).val, 0, (grid0.coords t 2).val, 0, (grid0.coords t 1).val, 0] := by
  decide +kernel

variable (m : (ℓ : Loc nD τ sig) → Buf (Elt Ideal) ℓ)

theorem main_v0_eq (c : Dev nD) : (poolDat (B0 m) c).arrAt 1 cfg0.N = pooled (m ((c : Thread nD τ).loc main_arg0)) := by
  refine (poolDat (B0 m) c).arrAt_eq_of_covers 1 _ (by decide +kernel) fun t hf y => ?_
  blk_simp
  rw [poolDat_after_out, poolOut_apply]
  unfold framePair poolBlk pooled
  blk_simp [poolIn_index t, poolOut_index t]
  refine congrArg₂ (max : EReal → EReal → EReal) (congrArg (m ((c : Thread nD τ).loc main_arg0)) ?_) (congrArg (m ((c : Thread nD τ).loc main_arg0)) ?_)
  · blk_ext [poolIn_index t, poolOut_index t]
  · blk_ext [poolIn_index t, poolOut_index t]

end Cert.Roi
-- ==== Proof.Box.BoxArray.lean ====
/-
  The array the box region leaves: each element is bounded by the pooled features inside the bins of its box.
-/
module

public import proofs.«01_k».proof.Proof.Box.BlockValue
public import proofs.«01_k».proof.Proof.Box.PoolArray

@[expose] public section

set_option maxRecDepth 16384

noncomputable section

namespace Cert.Roi

open Cert.KernelIdeal Cert.KernelIdeal.Gen
open Idealize.ShloMosaic Idealize.ShloMosaic.TcCoe Idealize.ShloMosaic.Tactic

theorem boxIn_index : ∀ t : Fin grid1.N, cc1_transform_0 (grid1.coords t) = ![(grid1.coords t 0).val / 4, 0, 0, 0, (grid1.coords t 0).val % 4, 0] := by
  decide +kernel
theorem boxOut_index : ∀ t : Fin grid1.N, cc1_transform_1 (grid1.coords t) = ![(grid1.coords t 0).val / 4 * 16 + (grid1.coords t 1).val, (grid1.coords t 0).val % 4, 0, 0, 0, 0] := by
  decide +kernel

/-- A table of zeros, to name the box region's windows, whose index maps read no table. -/
abbrev zeroTbl : pre1.Contents (Elt Ideal) := fun | ⟨0, _⟩ => (fun _ => 0#32 : Table)

theorem boxOut_covers0 : ((cfg1 (F := Ideal) (admT zeroTbl)).win 1).Covers := by decide +kernel
theorem boxOut_covers (T : pre1.Contents (Elt Ideal)) : ((cfg1 (F := Ideal) (admT T)).win 1).Covers := boxOut_covers0

variable (V : (c : Dev nD) → (b : Ref sig .tc) → Buf (Elt Ideal) ((c : Thread nD τ).loc b)) (T : pre1.Contents (Elt Ideal)) (hT : Checked T)

theorem boxIn_at (t : Fin (cfg1 (admT T)).N) : ((cfg1 (admT T)).win 0).index t = ![(grid1.coords t 0).val / 4, 0, 0, 0, (grid1.coords t 0).val % 4, 0] :=
  boxIn_index t
theorem boxOut_at (t : Fin (cfg1 (admT T)).N) : ((cfg1 (admT T)).win 1).index t = ![(grid1.coords t 0).val / 4 * 16 + (grid1.coords t 1).val, (grid1.coords t 0).val % 4, 0, 0, 0, 0] :=
  boxOut_index t

/-- What is said of an element of the box region's array: it is never below the most negative finite value, and above
    that it is bounded exactly as the elements of the pooled features inside its bins are. -/
def BinMax (f : Vec Ideal S2x4x96x16x32x96 .f32) (x : Crop) (b : Fin 2) (ch : Fin 32) (t j : Fin 4) (k n : Fin 7) (v : EReal) : Prop :=
  negZ ≤ v ∧ ∀ z : EReal, negZ ≤ z → (v ≤ z
    ↔ ∀ w : Fin 96, x.w + binLo 7 x.sw n.val ≤ w.val ∧ w.val < x.w + binHi 7 x.sw n.val →
      ∀ q : Fin 8, binLo 4 x.sd j.val ≤ q.val ∧ q.val < binHi 4 x.sd j.val →
      ∀ y : Fin 96, x.h + binLo 7 x.sh k.val ≤ y.val ∧ y.val < x.h + binHi 7 x.sh k.val →
        f (ix6 b t y ⟨x.d + q.val, by have := x.hd; omega⟩ ch w) ≤ z)

/-- The same of an element of the array, by its index, whatever crop its box is. -/
def BinMaxAt (f : Vec Ideal S2x4x96x16x32x96 .f32) (i : S32x32x4x4x7x7.Idx) (v : EReal) : Prop :=
  ∀ (b : Fin 2) (k : Fin 16) (x : Crop), (i 0).val = b.val * 16 + k.val → x.At (show Table from T 0) b k →
    BinMax f x b (show Fin 32 from i 1) (show Fin 4 from i 2) (show Fin 4 from i 3) (show Fin 7 from i 4) (show Fin 7 from i 5) v

/-- The box region's input block at an element. -/
theorem boxBlk_apply (c : Dev nD) (t : Fin (cfg1 (admT T)).N) (r : Fin 4) (y : Fin 96) (q : Fin 16) (ch : Fin 8) (w : Fin 96) (b : Fin 2) (hb : b.val = (grid1.coords t 0).val / 4)
    (ch' : Fin 32) (hc : ch'.val = (grid1.coords t 0).val % 4 * 8 + ch.val) :
    (show Vec Ideal S1x4x96x16x8x96 .f32 from boxBlk V T c 0 t) (ix6 0 r y q ch w) = (show Vec Ideal S2x4x96x16x32x96 .f32 from V c main_v0) (ix6 b r y q ch' w) := by
  show boxBlk V T c 0 t (ix6 0 r y q ch w) = V c main_v0 (ix6 b r y q ch' w)
  unfold boxBlk
  blk_simp
  refine congrArg (V c main_v0) ?_
  blk_ext [boxIn_at T t]

/-- What the body leaves in its output block at a point, said of an array index of that block. -/
theorem boxOut_binMax (c : Dev nD) (t : Fin (cfg1 (admT T)).N) (y : S1x8x4x4x7x7.Idx) (i : S32x32x4x4x7x7.Idx)
    (h0 : (i 0).val = (grid1.coords t 0).val / 4 * 16 + (grid1.coords t 1).val) (h1 : (i 1).val = (grid1.coords t 0).val % 4 * 8 + (y 1).val)
    (h2 : (i 2).val = (y 2).val) (h3 : (i 3).val = (y 3).val) (h4 : (i 4).val = (y 4).val) (h5 : (i 5).val = (y 5).val) :
    BinMaxAt T (show Vec Ideal S2x4x96x16x32x96 .f32 from V c main_v0) i (boxOut V T hT c t y) := by
  intro b k x hbk hx
  have g0 : (grid1.coords t 0).val < 8 := (grid1.coords t 0).isLt
  have g1 : (grid1.coords t 1).val < 16 := (grid1.coords t 1).isLt
  obtain rfl : b = ptB (grid1.coords t) := Fin.ext (by show b.val = (grid1.coords t 0).val / 4; omega)
  obtain rfl : k = ptK (grid1.coords t) := Fin.ext (by show k.val = (grid1.coords t 1).val; have : (ptB (grid1.coords t)).val = (grid1.coords t 0).val / 4 := rfl; omega)
  have ey : boxOut V T hT c t y = ddVal c (grid1.coords t) (stIn T t) (hstIn T t) hsM ddM (boxBlk V T c 0 t) (T 0) (hT c (grid1.coords t)).1 (hT c (grid1.coords t)).2
      (ix5 (show Fin 4 from y 2) (show Fin 4 from y 3) (show Fin 7 from y 4) (show Fin 8 from y 1) (show Fin 7 from y 5)) := by
    unfold boxOut
    exact (congrArg (fun L => View.canon L y) (boxRun_eq c (grid1.coords t) (stIn T t) (hstIn T t) (stOut T t) (hstOut T t) hsM (Memref.isWhole_whole _) ddM (Memref.isWhole_whole _)
      (boxBlk V T c 0 t) (T 0) (hT c (grid1.coords t)).1 (hT c (grid1.coords t)).2)).trans
      ((congrArg (View.canon (chanPieces _)) (ValueIdx.eq_ix6 y)).trans (chanPieces_apply _ _ _ _ _ _ _))
  have e2 : (show Fin 4 from i 2) = (show Fin 4 from y 2) := Fin.ext h2
  have e3 : (show Fin 4 from i 3) = (show Fin 4 from y 3) := Fin.ext h3
  have e4 : (show Fin 7 from i 4) = (show Fin 7 from y 4) := Fin.ext h4
  have e5 : (show Fin 7 from i 5) = (show Fin 7 from y 5) := Fin.ext h5
  rw [e2, e3, e4, e5, ey]
  refine ⟨neg_le_ddVal c _ _ _ _ _ _ _ _ _ hx _ _ _ _ _, fun z hz => (ddVal_le c _ _ _ _ _ _ _ _ _ hx _ _ _ _ _ z hz).trans ?_⟩
  refine forall_congr' fun w => imp_congr_right fun _ => forall_congr' fun q => imp_congr_right fun _ => forall_congr' fun r => imp_congr_right fun _ => ?_
  exact iff_of_eq (congrArg (· ≤ z) (boxBlk_apply V T c t _ r _ _ w _ rfl _ h1))

/-- What every element of the box region's array is. -/
theorem box_arr (c : Dev nD) (i : S32x32x4x4x7x7.Idx) :
    BinMaxAt T (show Vec Ideal S2x4x96x16x32x96 .f32 from V c main_v0) i ((boxDat V T hT c).arrAt 1 (cfg1 (admT T)).N i) := by
  refine (boxDat V T hT c).arrAt_forall_of_covers 1 (fun i v => BinMaxAt T (show Vec Ideal S2x4x96x16x32x96 .f32 from V c main_v0) i v) (boxOut_covers T) (fun t hf y => ?_) i
  blk_simp
  rw [boxDat_after_out]
  refine boxOut_binMax V T hT c t y _ ?_ ?_ ?_ ?_ ?_ ?_
  all_goals blk_simp [boxOut_at T t]

end Cert.Roi
-- ==== Proof.Box.Frames.lean ====
/-
  Every program runs, leaves its arguments unchanged and every counter at zero. The kernel and its idealization are one
  program text, read at two interpretations of floats; the run is proved once, at any interpretation.
-/
module

public import proofs.«01_k».proof.Defs
public import proofs.«01_k».proof.Proof.Box.Launch
public import proofs.«01_k».proof.Proof.Box.Checked
public import proofs.«01_k».proof.Proof.Gen.Kernel
public import proofs.«01_k».proof.Proof.Gen.ReferenceIdeal.Run

@[expose] public section

set_option maxRecDepth 16384

noncomputable section

namespace Cert.Roi

open Idealize.ShloMosaic Idealize.ShloMosaic.TcCoe Idealize.ShloMosaic.Tactic Idealize.SL.Sem

/-- The printed precondition, at any interpretation of floats. -/
def InRange {F : FTy → Type} [FloatOps F] (m : (ℓ : Loc Cert.KernelIdeal.nD Cert.KernelIdeal.τ Cert.KernelIdeal.sig) → Buf (Elt F) ℓ) : Prop :=
  ∀ c : Dev Cert.KernelIdeal.nD,
    Cert.Pre_boxes_in_range.fn (F := F) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = (fun _ => 1#1)

/-- Under the precondition every row of the table holds a crop. -/
theorem crops {F : FTy → Type} [FloatOps F] (m : (ℓ : Loc Cert.KernelIdeal.nD Cert.KernelIdeal.τ Cert.KernelIdeal.sig) → Buf (Elt F) ℓ) (h : InRange m)
    (b : Fin 2) (k : Fin 16) : ∃ x : Crop, x.At (show Table from tbl m 0) b k :=
  crop_of_pre _ _ (h 0) b k

/-- Under the precondition the table passes the body's checks. -/
theorem checked {F : FTy → Type} [FloatOps F] (m : (ℓ : Loc Cert.KernelIdeal.nD Cert.KernelIdeal.τ Cert.KernelIdeal.sig) → Buf (Elt F) ℓ) (h : InRange m) :
    Checked (tbl m) :=
  checked_of_crops _ (crops m h)

/-- What a frame claim says of the kernel's text, at any interpretation of floats. -/
def FrameAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), InRange m →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem frameAt (F : FTy → Type) [FloatOps F] : FrameAt F := fun m g h =>
  (θ_run Cert.KernelIdeal.defs _ _).mono (fun _ hr => ⟨fun c => (hr.1 c).2, hr.2⟩) (run m g (checked m h))

/-- The kernel's frame claim is the text's, at machine words. -/
theorem kernel_frame_eq : Cert.quiescent_Kernel = FrameAt Bits := by sl_kernel_rfl

theorem frame_kernel : Cert.quiescent_Kernel := kernel_frame_eq ▸ frameAt Bits

theorem frame_kernelIdeal : Cert.quiescent_KernelIdeal := frameAt Ideal

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_boxes_in_range := fun m ρ _ =>
  frame_referenceIdeal m ρ trivial

end Cert.Roi

end
-- ==== Proof.Ref.Edges.lean ====
/-
  The bin edges the reference computes, as naturals: along each axis, box `n`'s start plus the bin's share of its extent.
-/
module

public import proofs.«01_k».proof.Proof.Gen.ReferenceIdeal.Run
public import proofs.«01_k».proof.Proof.Box.Table
public import Idealize.ShloMosaic.Lib.Pointwise
public import Idealize.ShloMosaic.Lib.Tactic.CleanTypes

@[expose] public section

set_option maxRecDepth 16384

noncomputable section

namespace Cert.Roi

open Cert.ReferenceIdeal Cert.ReferenceIdeal.Value
open Idealize.ShloMosaic Idealize.ShloMosaic.TcCoe Idealize.ShloMosaic.Tactic Idealize.ShloMosaic.Routing

/-- Box `n`'s image, of the two. -/
abbrev boxB (n : Fin 32) : Fin 2 := ⟨n.val / 16, by omega⟩
/-- Box `n`'s place among its image's boxes. -/
abbrev boxK (n : Fin 32) : Fin 16 := ⟨n.val % 16, by omega⟩

section

variable (V0 : Valuation τ sig (Elt Ideal))

/-- The table of boxes a launch holds. -/
abbrev boxesOf : Table := V0 (Proc.devRef .tc main_arg1)

end

end Cert.Roi
-- ==== Proof.Ref.Masks.lean ====
/-
  The masks of the reference: which positions of an axis lie in which bin of which box, as words and as naturals.
-/
module

public import proofs.«01_k».proof.Proof.Gen.ReferenceIdeal
public import proofs.«01_k».proof.Proof.Box.Words
public import Idealize.ShloMosaic.Lib.Pointwise
public import Idealize.ShloMosaic.Lib.Routing.BitFacts

@[expose] public section

set_option maxRecDepth 16384

noncomputable section

namespace Cert.Roi

open Cert.ReferenceIdeal Cert.ReferenceIdeal.Gen
open Idealize.ShloMosaic Idealize.ShloMosaic.TcCoe Idealize.ShloMosaic.Tactic Idealize.ShloMosaic.Routing

/-! ## Scalar words -/

/-- The sign of a word, as the host takes it. -/
abbrev hsgn (x : BitVec 32) : BitVec 32 := if x = 0 then 0 else if x.msb then -1 else 1

/-- Floor division of words, as the host computes it. -/
abbrev hdiv (a o : BitVec 32) : BitVec 32 :=
  Scalar.select (IntOp.andi (IntOp.cmpi .ne (hsgn a) (hsgn o)) (IntOp.cmpi .ne (IntOp.remsi .host a o) 0#32))
    (IntOp.subi (IntOp.divsi .host a o) 1#32) (IntOp.divsi .host a o)

/-- Floor division of naturals below `2 ^ 31` is the natural quotient. -/
theorem hdiv_w32 {a b : ℕ} (ha : a < 2 ^ 31) (h0 : 0 < b) (hb : b < 2 ^ 31) : hdiv (w32 a) (w32 b) = w32 (a / b) := by
  unfold hdiv hsgn
  rw [divsi_word .host ha h0 hb, remsi_word .host ha h0 hb, if_neg (ofNat32_ne_zero h0 (by omega)), msb_ofNat32 ha, msb_ofNat32 hb]
  rcases Nat.eq_zero_or_pos a with h | h
  · subst h
    rw [Nat.zero_mod, Nat.zero_div]
    rfl
  · rw [if_neg (ofNat32_ne_zero h (by omega))]
    have e : IntOp.cmpi .ne (if false = true then (-1 : BitVec 32) else 1) (if false = true then (-1 : BitVec 32) else 1) = 0#1 := by decide
    rw [e]
    show Scalar.select (0#1 &&& _) _ _ = _
    rw [BitVec.zero_and]
    rfl

/-- The mask word of position `l` for bin `i` of `o`, over a crop from the word `s` to the word `e`. -/
abbrev binWord (s e o : BitVec 32) (i l : ℕ) : BitVec 1 :=
  IntOp.andi (IntOp.cmpi .sge (w32 l) (IntOp.addi s (hdiv (IntOp.muli (w32 i) (IntOp.subi e s)) o)))
    (IntOp.cmpi .slt (w32 l) (IntOp.addi s (hdiv (IntOp.subi (IntOp.addi (IntOp.muli (IntOp.addi (w32 i) 1#32) (IntOp.subi e s)) o) 1#32) o)))

/-- It says whether the position lies in the bin. -/
theorem binWord_eq {p S O i l : ℕ} (hp : p ≤ 47) (hS : S ≤ 48) (h0 : 0 < O) (hO : O ≤ 7) (hi : i ≤ 6) (hl : l < 96) :
    binWord (w32 p) (w32 (p + S)) (w32 O) i l = BitVec.ofBool (decide (p + i * S / O ≤ l ∧ l < p + ((i + 1) * S + (O - 1)) / O)) := by
  have h1 : i * S ≤ 288 := Nat.mul_le_mul hi hS
  have h2 : (i + 1) * S ≤ 336 := Nat.mul_le_mul (Nat.succ_le_succ hi) hS
  have h3 : i * S / O ≤ 288 := (Nat.div_le_self _ _).trans h1
  have h4 : ((i + 1) * S + (O - 1)) / O ≤ 342 := (Nat.div_le_self _ _).trans (by omega)
  unfold binWord
  rw [subi_w32 (by omega) (by omega), Nat.add_sub_cancel_left, show (1#32 : BitVec 32) = w32 1 from rfl, addi_w32 i 1, muli_w32, muli_w32,
    addi_w32 ((i + 1) * S) O, subi_w32 (by omega) (by omega), show (i + 1) * S + O - 1 = (i + 1) * S + (O - 1) by omega, hdiv_w32 (by omega) h0 (by omega), hdiv_w32 (by omega) h0 (by omega),
    addi_w32, addi_w32]
  exact inBin_w32 (by omega) (by omega) (by omega)

/-! ## Vectors of them -/

section

variable {O L : ℕ} (st ext : IVec S32 32)
  (h1O : Shape.BroadcastsInDim ⟨2, ![1, O]⟩ ⟨2, ![32, O]⟩ (![0, 1] : Fin 2 → Fin 2))
  (hO1 : Shape.BroadcastsInDim ⟨1, ![O]⟩ ⟨2, ![1, O]⟩ (![1] : Fin 1 → Fin 2))
  (h321 : Shape.BroadcastsInDim S32x1 ⟨2, ![32, O]⟩ (![0, 1] : Fin 2 → Fin 2))
  (hs : Shape.BroadcastsInDim S_ ⟨2, ![32, O]⟩ (![] : Fin 0 → Fin 2))
  (hs1 : Shape.BroadcastsInDim S_ ⟨1, ![O]⟩ (![] : Fin 0 → Fin 1))
  (hL : Shape.BroadcastsInDim ⟨3, ![1, 1, L]⟩ ⟨3, ![32, O, L]⟩ (![0, 1, 2] : Fin 3 → Fin 3))
  (hL1 : Shape.BroadcastsInDim ⟨1, ![L]⟩ ⟨3, ![1, 1, L]⟩ (![2] : Fin 1 → Fin 3))
  (hOL : Shape.BroadcastsInDim ⟨3, ![32, O, 1]⟩ ⟨3, ![32, O, L]⟩ (![0, 1, 2] : Fin 3 → Fin 3))
  (hO : Shape.BroadcastsInDim ⟨2, ![32, O]⟩ ⟨3, ![32, O, 1]⟩ (![0, 1] : Fin 2 → Fin 3))

/-- Floor division of a table by a scalar. -/
def divV (a : IVec ⟨2, ![32, O]⟩ 32) (o : IVec S_ 32) : IVec ⟨2, ![32, O]⟩ 32 :=
  select (andi (cmpi .ne (signi a) (broadcastInDim _ ![] hs (signi o))) (cmpi .ne (Host.remsi a (broadcastInDim _ ![] hs o)) (broadcastInDim _ ![] hs (constantI S_ 32 0#32))))
    (subi (Host.divsi a (broadcastInDim _ ![] hs o)) (broadcastInDim _ ![] hs (constantI S_ 32 1#32))) (Host.divsi a (broadcastInDim _ ![] hs o))

/-- Bin numbers times extents. -/
def loNum (e1 : IVec S32x1 32) (io : IVec ⟨1, ![O]⟩ 32) : IVec ⟨2, ![32, O]⟩ 32 :=
  muli (broadcastInDim ⟨2, ![32, O]⟩ ![0, 1] h1O (broadcastInDim ⟨2, ![1, O]⟩ ![1] hO1 io)) (broadcastInDim ⟨2, ![32, O]⟩ ![0, 1] h321 e1)

/-- A bin's edge: the crop's start plus its share. -/
def edgeV (q : IVec ⟨2, ![32, O]⟩ 32) : IVec ⟨2, ![32, O]⟩ 32 :=
  addi (broadcastInDim _ ![0, 1] h321 (broadcastInDim S32x1 ![0] bcast_S32_S32x1_0 st)) q

theorem divV_apply (a : IVec ⟨2, ![32, O]⟩ 32) (o : IVec S_ 32) (n : Fin 32) (i : Fin O) : divV hs a o (ix2 n i) = hdiv (a (ix2 n i)) (o ix0) := by
  unfold divV
  pointwise

/-- The mask: position at least the bin's first edge and below its last. -/
def maskV (e1 : IVec S32x1 32) (io : IVec ⟨1, ![O]⟩ 32) (o : IVec S_ 32) (po : IVec ⟨1, ![L]⟩ 32) : IVec ⟨3, ![32, O, L]⟩ 1 :=
  andi
    (cmpi .sge (broadcastInDim _ ![0, 1, 2] hL (broadcastInDim ⟨3, ![1, 1, L]⟩ ![2] hL1 po))
      (broadcastInDim _ ![0, 1, 2] hOL (broadcastInDim ⟨3, ![32, O, 1]⟩ ![0, 1] hO (edgeV st h321 (divV hs (loNum h1O hO1 h321 e1 io) o)))))
    (cmpi .slt (broadcastInDim _ ![0, 1, 2] hL (broadcastInDim ⟨3, ![1, 1, L]⟩ ![2] hL1 po))
      (broadcastInDim _ ![0, 1, 2] hOL (broadcastInDim ⟨3, ![32, O, 1]⟩ ![0, 1] hO
        (edgeV st h321 (divV hs (subi (addi (loNum h1O hO1 h321 e1 (addi io (broadcastInDim _ ![] hs1 (constantI S_ 32 1#32)))) (broadcastInDim _ ![] hs o))
          (broadcastInDim _ ![] hs (constantI S_ 32 1#32))) o)))))

end

/-- The masks at the extents the reference takes them at: 7 bins of 96 positions, 4 of 16, 4 of 8. -/
theorem mask96_apply (st en : IVec S32 32) (o : BitVec 32) (h1O hO1 h321 hs hs1 hL hL1 hOL hO) (n : Fin 32) (i : Fin 7) (l : Fin 96) :
    maskV (O := 7) (L := 96) st h1O hO1 h321 hs hs1 hL hL1 hOL hO (broadcastInDim S32x1 ![0] bcast_S32_S32x1_0 (subi en st)) (iotaInDim _ 32 0) (id (constantI S_ 32 o)) (iotaInDim _ 32 0) (ix3 n i l)
      = binWord (st (ix1 n)) (en (ix1 n)) o i.val l.val := by
  unfold maskV edgeV loNum
  pointwise [divV_apply]
  rfl

theorem mask16_apply (st en : IVec S32 32) (o : BitVec 32) (h1O hO1 h321 hs hs1 hL hL1 hOL hO) (n : Fin 32) (i : Fin 4) (l : Fin 16) :
    maskV (O := 4) (L := 16) st h1O hO1 h321 hs hs1 hL hL1 hOL hO (broadcastInDim S32x1 ![0] bcast_S32_S32x1_0 (subi en st)) (iotaInDim _ 32 0) (id (constantI S_ 32 o)) (iotaInDim _ 32 0) (ix3 n i l)
      = binWord (st (ix1 n)) (en (ix1 n)) o i.val l.val := by
  unfold maskV edgeV loNum
  pointwise [divV_apply]
  rfl

theorem mask8_apply (st en : IVec S32 32) (o : BitVec 32) (h1O hO1 h321 hs hs1 hL hL1 hOL hO) (n : Fin 32) (i : Fin 4) (l : Fin 8) :
    maskV (O := 4) (L := 8) st h1O hO1 h321 hs hs1 hL hL1 hOL hO (broadcastInDim S32x1 ![0] bcast_S32_S32x1_0 (subi en st)) (iotaInDim _ 32 0) (id (constantI S_ 32 o)) (iotaInDim _ 32 0) (ix3 n i l)
      = binWord (st (ix1 n)) (en (ix1 n)) o i.val l.val := by
  unfold maskV edgeV loNum
  pointwise [divV_apply]
  rfl

end Cert.Roi
-- ==== Proof.Ref.Reduce.lean ====
/-
  What bounds a maximum the host takes along one axis.
-/
module

public import proofs.«01_k».proof.Proof.Gen.ReferenceIdeal
public import proofs.«01_k».proof.Proof.Box.Bins

@[expose] public section

set_option maxRecDepth 16384

noncomputable section

namespace Cert.Roi

open Cert.ReferenceIdeal Cert.ReferenceIdeal.Gen
open Idealize.ShloMosaic Idealize.ShloMosaic.TcCoe Idealize.ShloMosaic.Tactic

/-- A maximum along one axis is at most `z` exactly when every element along it is. -/
theorem hostMax_le {s t : Shape} {a : Fin s.rank} (x : FVec Ideal s .f32) (h' : s.ReducesTo [a] t) (h : s.Reduces [a] t) (hu : 0 < S_.numel) (j : t.Idx) (z : EReal) :
    Host.reduce FloatOps.maximumf x (constant S_ .f32 0xFF800000#32) h' hu j ≤ z ↔ ∀ k : Fin (s.size a), x (h.lift j k) ≤ z := by
  rw [Host.reduce_eq_fold, h'.drop_eq_drop h, h.fold_filter_drop_single]
  exact fold_max_le_iff _ z

theorem maxW_le (x : FVec Ideal S32x32x8x16x96x7x96 .f32) (z : EReal) (n : Fin 32) (c : Fin 32) (t : Fin 8) (d : Fin 16) (y : Fin 96) (i : Fin 7) :
    Host.reduce FloatOps.maximumf x (constant S_ .f32 0xFF800000#32) reducesTo_S32x32x8x16x96x7x96_S32x32x8x16x96x7_d6 h_S_ (ix6 n c t d y i) ≤ z
      ↔ ∀ l : Fin 96, x (ix7 n c t d y i l) ≤ z := by
  rw [hostMax_le x _ (by decide)]
  refine forall_congr' fun l => iff_of_eq (congrArg (fun v => x v ≤ z) (funext fun a => Fin.ext ?_))
  fin_cases a <;> rfl

theorem maxH_le (x : FVec Ideal S32x32x8x16x7x96x7 .f32) (z : EReal) (n : Fin 32) (c : Fin 32) (t : Fin 8) (d : Fin 16) (j : Fin 7) (i : Fin 7) :
    Host.reduce FloatOps.maximumf x (constant S_ .f32 0xFF800000#32) reducesTo_S32x32x8x16x7x96x7_S32x32x8x16x7x7_d5 h_S_ (ix6 n c t d j i) ≤ z
      ↔ ∀ l : Fin 96, x (ix7 n c t d j l i) ≤ z := by
  rw [hostMax_le x _ (by decide)]
  refine forall_congr' fun l => iff_of_eq (congrArg (fun v => x v ≤ z) (funext fun a => Fin.ext ?_))
  fin_cases a <;> rfl

theorem maxD_le (x : FVec Ideal S32x32x8x4x16x7x7 .f32) (z : EReal) (n : Fin 32) (c : Fin 32) (t : Fin 8) (q : Fin 4) (j : Fin 7) (i : Fin 7) :
    Host.reduce FloatOps.maximumf x (constant S_ .f32 0xFF800000#32) reducesTo_S32x32x8x4x16x7x7_S32x32x8x4x7x7_d4 h_S_ (ix6 n c t q j i) ≤ z
      ↔ ∀ l : Fin 16, x (ix7 n c t q l j i) ≤ z := by
  rw [hostMax_le x _ (by decide)]
  refine forall_congr' fun l => iff_of_eq (congrArg (fun v => x v ≤ z) (funext fun a => Fin.ext ?_))
  fin_cases a <;> rfl

theorem maxT_le (x : FVec Ideal S32x32x4x8x4x7x7 .f32) (z : EReal) (n : Fin 32) (c : Fin 32) (p : Fin 4) (q : Fin 4) (j : Fin 7) (i : Fin 7) :
    Host.reduce FloatOps.maximumf x (constant S_ .f32 0xFF800000#32) reducesTo_S32x32x4x8x4x7x7_S32x32x4x4x7x7_d3 h_S_ (ix6 n c p q j i) ≤ z
      ↔ ∀ l : Fin 8, x (ix7 n c p l q j i) ≤ z := by
  rw [hostMax_le x _ (by decide)]
  refine forall_congr' fun l => iff_of_eq (congrArg (fun v => x v ≤ z) (funext fun a => Fin.ext ?_))
  fin_cases a <;> rfl

end Cert.Roi
-- ==== Proof.Ref.Steps.lean ====
/-
  The reference's four pools, each as a step over a mask, and what bounds each of them.
-/
module

public import proofs.«01_k».proof.Proof.Ref.Masks
public import proofs.«01_k».proof.Proof.Ref.Reduce

@[expose] public section

set_option maxRecDepth 16384

noncomputable section

namespace Cert.Roi

open Cert.ReferenceIdeal Cert.ReferenceIdeal.Gen
open Idealize.ShloMosaic Idealize.ShloMosaic.TcCoe Idealize.ShloMosaic.Tactic

/-- Pool the last axis into width bins. -/
def poolW (m : IVec S32x7x96 1) (x : FVec Ideal S32x32x8x16x96x96 .f32) : FVec Ideal S32x32x8x16x96x7 .f32 :=
  Host.reduce FloatOps.maximumf
    (select (broadcastInDim S32x32x8x16x96x7x96 ![0, 1, 2, 3, 4, 5, 6] bcast_S32x1x1x1x1x7x96_S32x32x8x16x96x7x96_0_1_2_3_4_5_6 (shapeCast _ m shapeCasts_S32x7x96_S32x1x1x1x1x7x96))
      (broadcastInDim S32x32x8x16x96x7x96 ![0, 1, 2, 3, 4, 5, 6] bcast_S32x32x8x16x96x1x96_S32x32x8x16x96x7x96_0_1_2_3_4_5_6
        (broadcastInDim S32x32x8x16x96x1x96 ![0, 1, 2, 3, 4, 6] bcast_S32x32x8x16x96x96_S32x32x8x16x96x1x96_0_1_2_3_4_6 x))
      (broadcastInDim S32x32x8x16x96x7x96 ![] bcast_S_S32x32x8x16x96x7x96 (constant S_ .f32 0xFF7FFFFF#32)))
    (constant S_ .f32 0xFF800000#32) reducesTo_S32x32x8x16x96x7x96_S32x32x8x16x96x7_d6 h_S_

/-- Pool the rows into height bins. -/
def poolH (m : IVec S32x7x96 1) (x : FVec Ideal S32x32x8x16x96x7 .f32) : FVec Ideal S32x32x8x16x7x7 .f32 :=
  Host.reduce FloatOps.maximumf
    (select (broadcastInDim S32x32x8x16x7x96x7 ![0, 1, 2, 3, 4, 5, 6] bcast_S32x1x1x1x7x96x1_S32x32x8x16x7x96x7_0_1_2_3_4_5_6 (shapeCast _ m shapeCasts_S32x7x96_S32x1x1x1x7x96x1))
      (broadcastInDim S32x32x8x16x7x96x7 ![0, 1, 2, 3, 4, 5, 6] bcast_S32x32x8x16x1x96x7_S32x32x8x16x7x96x7_0_1_2_3_4_5_6
        (broadcastInDim S32x32x8x16x1x96x7 ![0, 1, 2, 3, 5, 6] bcast_S32x32x8x16x96x7_S32x32x8x16x1x96x7_0_1_2_3_5_6 x))
      (broadcastInDim S32x32x8x16x7x96x7 ![] bcast_S_S32x32x8x16x7x96x7 (constant S_ .f32 0xFF7FFFFF#32)))
    (constant S_ .f32 0xFF800000#32) reducesTo_S32x32x8x16x7x96x7_S32x32x8x16x7x7_d5 h_S_

/-- Pool the slices into depth bins. -/
def poolD (m : IVec S32x4x16 1) (x : FVec Ideal S32x32x8x16x7x7 .f32) : FVec Ideal S32x32x8x4x7x7 .f32 :=
  Host.reduce FloatOps.maximumf
    (select (broadcastInDim S32x32x8x4x16x7x7 ![0, 1, 2, 3, 4, 5, 6] bcast_S32x1x1x4x16x1x1_S32x32x8x4x16x7x7_0_1_2_3_4_5_6 (shapeCast _ m shapeCasts_S32x4x16_S32x1x1x4x16x1x1))
      (broadcastInDim S32x32x8x4x16x7x7 ![0, 1, 2, 3, 4, 5, 6] bcast_S32x32x8x1x16x7x7_S32x32x8x4x16x7x7_0_1_2_3_4_5_6
        (broadcastInDim S32x32x8x1x16x7x7 ![0, 1, 2, 4, 5, 6] bcast_S32x32x8x16x7x7_S32x32x8x1x16x7x7_0_1_2_4_5_6 x))
      (broadcastInDim S32x32x8x4x16x7x7 ![] bcast_S_S32x32x8x4x16x7x7 (constant S_ .f32 0xFF7FFFFF#32)))
    (constant S_ .f32 0xFF800000#32) reducesTo_S32x32x8x4x16x7x7_S32x32x8x4x7x7_d4 h_S_

/-- Pool the frames into time bins. -/
def poolT (m : IVec S32x4x8 1) (x : FVec Ideal S32x32x8x4x7x7 .f32) : FVec Ideal S32x32x4x4x7x7 .f32 :=
  Host.reduce FloatOps.maximumf
    (select (broadcastInDim S32x32x4x8x4x7x7 ![0, 1, 2, 3, 4, 5, 6] bcast_S32x1x4x8x1x1x1_S32x32x4x8x4x7x7_0_1_2_3_4_5_6 (shapeCast _ m shapeCasts_S32x4x8_S32x1x4x8x1x1x1))
      (broadcastInDim S32x32x4x8x4x7x7 ![0, 1, 2, 3, 4, 5, 6] bcast_S32x32x1x8x4x7x7_S32x32x4x8x4x7x7_0_1_2_3_4_5_6
        (broadcastInDim S32x32x1x8x4x7x7 ![0, 1, 3, 4, 5, 6] bcast_S32x32x8x4x7x7_S32x32x1x8x4x7x7_0_1_3_4_5_6 x))
      (broadcastInDim S32x32x4x8x4x7x7 ![] bcast_S_S32x32x4x8x4x7x7 (constant S_ .f32 0xFF7FFFFF#32)))
    (constant S_ .f32 0xFF800000#32) reducesTo_S32x32x4x8x4x7x7_S32x32x4x4x7x7_d3 h_S_

/-- Each image of the features, once per box. -/
def perBox (x : FVec Ideal S2x32x8x16x96x96 .f32) : FVec Ideal S32x32x8x16x96x96 .f32 :=
  shapeCast _ (broadcastInDim S2x16x32x8x16x96x96 ![0, 2, 3, 4, 5, 6] bcast_S2x32x8x16x96x96_S2x16x32x8x16x96x96_0_2_3_4_5_6 x) shapeCasts_S2x16x32x8x16x96x96_S32x32x8x16x96x96

theorem perBox_apply (x : FVec Ideal S2x32x8x16x96x96 .f32) (n : Fin 32) (c : Fin 32) (t : Fin 8) (d : Fin 16) (y : Fin 96) (w : Fin 96) :
    perBox x (ix6 n c t d y w) = x (ix6 ⟨n.val / 16, by omega⟩ c t d y w) := by
  unfold perBox
  pointwise

/-- A masked element, by its mask word. -/
theorem selectWord_le {p : Prop} [Decidable p] (b : BitVec 1) (hb : b = BitVec.ofBool (decide p)) (e z : EReal) (hz : negZ ≤ z) :
    Scalar.select b e negZ ≤ z ↔ (p → e ≤ z) := by
  subst hb
  unfold Scalar.select
  by_cases h : p
  · rw [decide_eq_true h]; exact ⟨fun g _ => g, fun g => g h⟩
  · rw [decide_eq_false h]; exact ⟨fun _ g => absurd g h, fun _ => hz⟩

section

variable (z : EReal) (hz : negZ ≤ z) (n : Fin 32) (c : Fin 32)
include hz

theorem poolW_le (m : IVec S32x7x96 1) (x : FVec Ideal S32x32x8x16x96x96 .f32) (t : Fin 8) (d : Fin 16) (y : Fin 96) (i : Fin 7)
    (p : Fin 96 → Prop) [DecidablePred p] (hm : ∀ l, m (ix3 n i l) = BitVec.ofBool (decide (p l))) :
    poolW m x (ix6 n c t d y i) ≤ z ↔ ∀ l, p l → x (ix6 n c t d y l) ≤ z := by
  unfold poolW
  rw [maxW_le]
  refine forall_congr' fun l => ?_
  pointwise
  exact selectWord_le _ (hm l) _ _ hz

theorem poolH_le (m : IVec S32x7x96 1) (x : FVec Ideal S32x32x8x16x96x7 .f32) (t : Fin 8) (d : Fin 16) (j : Fin 7) (i : Fin 7)
    (p : Fin 96 → Prop) [DecidablePred p] (hm : ∀ l, m (ix3 n j l) = BitVec.ofBool (decide (p l))) :
    poolH m x (ix6 n c t d j i) ≤ z ↔ ∀ l, p l → x (ix6 n c t d l i) ≤ z := by
  unfold poolH
  rw [maxH_le]
  refine forall_congr' fun l => ?_
  pointwise
  exact selectWord_le _ (hm l) _ _ hz

theorem poolD_le (m : IVec S32x4x16 1) (x : FVec Ideal S32x32x8x16x7x7 .f32) (t : Fin 8) (q : Fin 4) (j : Fin 7) (i : Fin 7)
    (p : Fin 16 → Prop) [DecidablePred p] (hm : ∀ l, m (ix3 n q l) = BitVec.ofBool (decide (p l))) :
    poolD m x (ix6 n c t q j i) ≤ z ↔ ∀ l, p l → x (ix6 n c t l j i) ≤ z := by
  unfold poolD
  rw [maxD_le]
  refine forall_congr' fun l => ?_
  pointwise
  exact selectWord_le _ (hm l) _ _ hz

theorem poolT_le (m : IVec S32x4x8 1) (x : FVec Ideal S32x32x8x4x7x7 .f32) (r : Fin 4) (q : Fin 4) (j : Fin 7) (i : Fin 7)
    (p : Fin 8 → Prop) [DecidablePred p] (hm : ∀ l, m (ix3 n r l) = BitVec.ofBool (decide (p l))) :
    poolT m x (ix6 n c r q j i) ≤ z ↔ ∀ l, p l → x (ix6 n c l q j i) ≤ z := by
  unfold poolT
  rw [maxT_le]
  refine forall_congr' fun l => ?_
  pointwise
  exact selectWord_le _ (hm l) _ _ hz

end

/-- A frame pool is never below the most negative finite value where its bin leaves some frame out. -/
theorem neg_le_poolT (m : IVec S32x4x8 1) (x : FVec Ideal S32x32x8x4x7x7 .f32) (n : Fin 32) (c : Fin 32) (r : Fin 4) (q : Fin 4) (j : Fin 7) (i : Fin 7)
    (l : Fin 8) (hm : m (ix3 n r l) = 0#1) : negZ ≤ poolT m x (ix6 n c r q j i) := by
  unfold poolT
  refine le_trans ?_ ((maxT_le _ _ n c r q j i).1 le_rfl l)
  pointwise
  rw [hm]
  exact le_rfl

end Cert.Roi
-- ==== Proof.Ref.Value.lean ====
/-
  The reference's result: at box `n` and an output bin, bounded by exactly what bounds every feature inside the bin.
-/
module

public import proofs.«01_k».proof.Proof.Ref.Edges
public import proofs.«01_k».proof.Proof.Ref.Steps

@[expose] public section

set_option maxRecDepth 16384

noncomputable section

namespace Cert.Roi

open Cert.ReferenceIdeal Cert.ReferenceIdeal.Gen Cert.ReferenceIdeal.Value
open Idealize.ShloMosaic Idealize.ShloMosaic.TcCoe Idealize.ShloMosaic.Tactic

section

variable (V0 : Valuation τ sig (Elt Ideal))

/-- Column `a` of the table of boxes, box by box. -/
abbrev colV (a : Fin 8) (h : S8x32.Slices ![a.val, 0] S1x32) : IVec S32 32 :=
  shapeCast S32 (extractStridedSlice S1x32 ![a.val, 0] (res_main_v3 V0) h) shapeCasts_S1x32_S32

theorem colV_apply (a : Fin 8) (h : S8x32.Slices ![a.val, 0] S1x32) (n : Fin 32) : colV V0 a h (ix1 n) = boxesOf V0 (ix3 (boxB n) (boxK n) a) := by
  unfold colV res_main_v3
  clean_types
  pointwise

/-- The masks of the four pools. -/
def maskW : IVec S32x7x96 1 :=
  maskV (O := 7) (L := 96) (colV V0 3 slices_S8x32_S1x32_3_0) bcast_S1x7_S32x7_0_1 bcast_S7_S1x7_1 bcast_S32x1_S32x7_0_1 bcast_S_S32x7 bcast_S_S7
    bcast_S1x1x96_S32x7x96_0_1_2 bcast_S96_S1x1x96_2 bcast_S32x7x1_S32x7x96_0_1_2 bcast_S32x7_S32x7x1_0_1
    (broadcastInDim S32x1 ![0] bcast_S32_S32x1_0 (subi (colV V0 7 slices_S8x32_S1x32_7_0) (colV V0 3 slices_S8x32_S1x32_3_0)))
    (iotaInDim _ 32 0) (id (constantI S_ 32 7#32)) (iotaInDim _ 32 0)
def maskH : IVec S32x7x96 1 :=
  maskV (O := 7) (L := 96) (colV V0 2 slices_S8x32_S1x32_2_0) bcast_S1x7_S32x7_0_1 bcast_S7_S1x7_1 bcast_S32x1_S32x7_0_1 bcast_S_S32x7 bcast_S_S7
    bcast_S1x1x96_S32x7x96_0_1_2 bcast_S96_S1x1x96_2 bcast_S32x7x1_S32x7x96_0_1_2 bcast_S32x7_S32x7x1_0_1
    (broadcastInDim S32x1 ![0] bcast_S32_S32x1_0 (subi (colV V0 6 slices_S8x32_S1x32_6_0) (colV V0 2 slices_S8x32_S1x32_2_0)))
    (iotaInDim _ 32 0) (id (constantI S_ 32 7#32)) (iotaInDim _ 32 0)
def maskD : IVec S32x4x16 1 :=
  maskV (O := 4) (L := 16) (colV V0 1 slices_S8x32_S1x32_1_0) bcast_S1x4_S32x4_0_1 bcast_S4_S1x4_1 bcast_S32x1_S32x4_0_1 bcast_S_S32x4 bcast_S_S4
    bcast_S1x1x16_S32x4x16_0_1_2 bcast_S16_S1x1x16_2 bcast_S32x4x1_S32x4x16_0_1_2 bcast_S32x4_S32x4x1_0_1
    (broadcastInDim S32x1 ![0] bcast_S32_S32x1_0 (subi (colV V0 5 slices_S8x32_S1x32_5_0) (colV V0 1 slices_S8x32_S1x32_1_0)))
    (iotaInDim _ 32 0) (id (constantI S_ 32 4#32)) (iotaInDim _ 32 0)
def maskT : IVec S32x4x8 1 :=
  maskV (O := 4) (L := 8) (colV V0 0 slices_S8x32_S1x32_0_0) bcast_S1x4_S32x4_0_1 bcast_S4_S1x4_1 bcast_S32x1_S32x4_0_1 bcast_S_S32x4 bcast_S_S4
    bcast_S1x1x8_S32x4x8_0_1_2 bcast_S8_S1x1x8_2 bcast_S32x4x1_S32x4x8_0_1_2 bcast_S32x4_S32x4x1_0_1
    (broadcastInDim S32x1 ![0] bcast_S32_S32x1_0 (subi (colV V0 4 slices_S8x32_S1x32_4_0) (colV V0 0 slices_S8x32_S1x32_0_0)))
    (iotaInDim _ 32 0) (id (constantI S_ 32 4#32)) (iotaInDim _ 32 0)

/-- The features a launch holds. -/
abbrev featsOf : FVec Ideal S2x32x8x16x96x96 .f32 := V0 (Proc.devRef .tc main_arg0)

/-- The reference's result, as its four pools. -/
def refOut : FVec Ideal S32x32x4x4x7x7 .f32 :=
  poolT (maskT V0) (poolD (maskD V0) (poolH (maskH V0) (poolW (maskW V0) (perBox (featsOf V0)))))

theorem refOut_eq :
    Host.reduce FloatOps.maximumf (res_main_v182 V0) (constant S_ .f32 0xFF800000#32) reducesTo_S32x32x4x8x4x7x7_S32x32x4x4x7x7_d3 h_S_ = refOut V0 := by
  sl_kernel_rfl

variable (n : Fin 32) {x : Crop} (hx : x.At (boxesOf V0) (boxB n) (boxK n))
include hx

theorem maskW_eq (i : Fin 7) (l : Fin 96) : maskW V0 (ix3 n i l) = BitVec.ofBool (decide (x.w + binLo 7 x.sw i.val ≤ l.val ∧ l.val < x.w + binHi 7 x.sw i.val)) := by
  rw [maskW, mask96_apply, colV_apply, colV_apply, hx.w3, hx.w7]
  exact binWord_eq x.hw x.hsw' (by decide) (by decide) (by omega) l.isLt
theorem maskH_eq (i : Fin 7) (l : Fin 96) : maskH V0 (ix3 n i l) = BitVec.ofBool (decide (x.h + binLo 7 x.sh i.val ≤ l.val ∧ l.val < x.h + binHi 7 x.sh i.val)) := by
  rw [maskH, mask96_apply, colV_apply, colV_apply, hx.w2, hx.w6]
  exact binWord_eq x.hh x.hsh' (by decide) (by decide) (by omega) l.isLt
theorem maskD_eq (i : Fin 4) (l : Fin 16) : maskD V0 (ix3 n i l) = BitVec.ofBool (decide (x.d + binLo 4 x.sd i.val ≤ l.val ∧ l.val < x.d + binHi 4 x.sd i.val)) := by
  rw [maskD, mask16_apply, colV_apply, colV_apply, hx.w1, hx.w5]
  exact binWord_eq (x.hd.trans (by decide)) (x.hsd'.trans (by decide)) (by decide) (by decide) (by omega) (l.isLt.trans (by decide))
theorem maskT_eq (i : Fin 4) (l : Fin 8) : maskT V0 (ix3 n i l) = BitVec.ofBool (decide (2 * i.val ≤ l.val ∧ l.val < 2 * i.val + 2)) := by
  rw [maskT, mask8_apply, colV_apply, colV_apply, hx.w0, hx.w4]
  refine (binWord_eq (p := 0) (S := 8) (O := 4) (by decide) (by decide) (by decide) (by decide) (by omega) (l.isLt.trans (by decide))).trans ?_
  congr 1
  refine decide_eq_decide.2 ?_
  omega

/-- What bounds the reference's result. -/
theorem refOut_le (z : EReal) (hz : negZ ≤ z) (c : Fin 32) (r : Fin 4) (q : Fin 4) (j : Fin 7) (i : Fin 7) :
    refOut V0 (ix6 n c r q j i) ≤ z
      ↔ ∀ t : Fin 8, (2 * r.val ≤ t.val ∧ t.val < 2 * r.val + 2) → ∀ d : Fin 16, (x.d + binLo 4 x.sd q.val ≤ d.val ∧ d.val < x.d + binHi 4 x.sd q.val) →
        ∀ y : Fin 96, (x.h + binLo 7 x.sh j.val ≤ y.val ∧ y.val < x.h + binHi 7 x.sh j.val) →
        ∀ w : Fin 96, (x.w + binLo 7 x.sw i.val ≤ w.val ∧ w.val < x.w + binHi 7 x.sw i.val) → featsOf V0 (ix6 (boxB n) c t d y w) ≤ z := by
  rw [refOut, poolT_le z hz n c _ _ r q j i _ (maskT_eq V0 n hx r)]
  refine forall_congr' fun t => imp_congr_right fun _ => ?_
  rw [poolD_le z hz n c _ _ t q j i _ (maskD_eq V0 n hx q)]
  refine forall_congr' fun d => imp_congr_right fun _ => ?_
  rw [poolH_le z hz n c _ _ t d j i _ (maskH_eq V0 n hx j)]
  refine forall_congr' fun y => imp_congr_right fun _ => ?_
  rw [poolW_le z hz n c _ _ t d y i _ (maskW_eq V0 n hx i)]
  refine forall_congr' fun w => imp_congr_right fun _ => ?_
  rw [perBox_apply]

/-- The reference's result is never below the most negative finite value. -/
theorem neg_le_refOut (c : Fin 32) (r : Fin 4) (q : Fin 4) (j : Fin 7) (i : Fin 7) : negZ ≤ refOut V0 (ix6 n c r q j i) := by
  obtain ⟨l, hl⟩ : ∃ l : Fin 8, ¬ (2 * r.val ≤ l.val ∧ l.val < 2 * r.val + 2) := by
    by_cases h : r.val = 0
    · exact ⟨7, fun g => by have : 7 < 2 * r.val + 2 := g.2; omega⟩
    · exact ⟨0, fun g => by have : 2 * r.val ≤ 0 := g.1; omega⟩
  refine neg_le_poolT _ _ n c r q j i l ?_
  rw [maskT_eq V0 n hx r l, decide_eq_false hl]
  rfl

end

end Cert.Roi
-- ==== Proof.Join.Equal.lean ====
/-
  The kernel's result is the reference's: both are never below the most negative finite value, and above that both are
  bounded exactly as the features of the box's bins are.
-/
module

public import proofs.«01_k».proof.Proof.Box.BoxArray
public import proofs.«01_k».proof.Proof.Box.Frames
public import proofs.«01_k».proof.Proof.Ref.Value

@[expose] public section

set_option maxRecDepth 16384

noncomputable section

namespace Cert.Roi

open Idealize.ShloMosaic Idealize.ShloMosaic.TcCoe Idealize.ShloMosaic.Tactic Idealize.SL.Sem

/-- The kernel's order of the bins of an element, and the reference's: the pairs of frames against the frames, the
    crop's own slices against all slices. -/
theorem bins_iff (f : Vec Ideal Cert.KernelIdeal.S2x32x8x16x96x96 .f32) (x : Crop) (b : Fin 2) (ch : Fin 32) (t j : Fin 4) (k n : Fin 7) (z : EReal) :
    (∀ w : Fin 96, x.w + binLo 7 x.sw n.val ≤ w.val ∧ w.val < x.w + binHi 7 x.sw n.val →
      ∀ q : Fin 8, binLo 4 x.sd j.val ≤ q.val ∧ q.val < binHi 4 x.sd j.val →
      ∀ y : Fin 96, x.h + binLo 7 x.sh k.val ≤ y.val ∧ y.val < x.h + binHi 7 x.sh k.val →
        pooled f (ix6 b t y ⟨x.d + q.val, by have := x.hd; omega⟩ ch w) ≤ z)
    ↔ ∀ s : Fin 8, (2 * t.val ≤ s.val ∧ s.val < 2 * t.val + 2) → ∀ d : Fin 16, (x.d + binLo 4 x.sd j.val ≤ d.val ∧ d.val < x.d + binHi 4 x.sd j.val) →
        ∀ y : Fin 96, (x.h + binLo 7 x.sh k.val ≤ y.val ∧ y.val < x.h + binHi 7 x.sh k.val) →
        ∀ w : Fin 96, (x.w + binLo 7 x.sw n.val ≤ w.val ∧ w.val < x.w + binHi 7 x.sw n.val) → f (ix6 b ch s d y w) ≤ z := by
  have hd := dWindow x (n := j.val) (by omega)
  have hd' : dOff x j.val ≤ 5 := min_le_right _ _
  have pair (y : Fin 96) (d : Fin 16) (w : Fin 96) : pooled f (ix6 b t y d ch w)
      = max (f (ix6 b ch ⟨2 * t.val, by omega⟩ d y w)) (f (ix6 b ch ⟨2 * t.val + 1, by omega⟩ d y w)) := rfl
  constructor
  · intro h s hs d hd1 y hy w hw
    have g := h w hw ⟨d.val - x.d, by omega⟩ ⟨by show binLo 4 x.sd j.val ≤ d.val - x.d; omega, by show d.val - x.d < binHi 4 x.sd j.val; omega⟩ y hy
    have e : (⟨x.d + (d.val - x.d), by omega⟩ : Fin 16) = d := Fin.ext (by show x.d + (d.val - x.d) = d.val; omega)
    simp only [e] at g
    rw [pair] at g
    by_cases hp : s.val = 2 * t.val
    · rw [show s = ⟨2 * t.val, by omega⟩ from Fin.ext hp]; exact (le_max_left _ _).trans g
    · rw [show s = ⟨2 * t.val + 1, by omega⟩ from Fin.ext (by show s.val = 2 * t.val + 1; omega)]; exact (le_max_right _ _).trans g
  · intro h w hw q hq y hy
    rw [pair]
    refine max_le (h _ ⟨?_, ?_⟩ _ ⟨?_, ?_⟩ y hy w hw) (h _ ⟨?_, ?_⟩ _ ⟨?_, ?_⟩ y hy w hw)
    · show 2 * t.val ≤ 2 * t.val; omega
    · show 2 * t.val < 2 * t.val + 2; omega
    · show x.d + binLo 4 x.sd j.val ≤ x.d + q.val; omega
    · show x.d + q.val < x.d + binHi 4 x.sd j.val; omega
    · show 2 * t.val ≤ 2 * t.val + 1; omega
    · show 2 * t.val + 1 < 2 * t.val + 2; omega
    · show x.d + binLo 4 x.sd j.val ≤ x.d + q.val; omega
    · show x.d + q.val < x.d + binHi 4 x.sd j.val; omega

section

variable (m : (ℓ : Loc Cert.KernelIdeal.nD Cert.KernelIdeal.τ Cert.KernelIdeal.sig) → Buf (Elt Ideal) ℓ) (h : InRange m)
  (c : Dev Cert.KernelIdeal.nD) (V0 : Valuation Cert.ReferenceIdeal.τ Cert.ReferenceIdeal.sig (Elt Ideal))
  (hf : featsOf V0 = m ((c : Thread Cert.KernelIdeal.nD Cert.KernelIdeal.τ).loc Cert.KernelIdeal.main_arg0))
  (hb : boxesOf V0 = m ((c : Thread Cert.KernelIdeal.nD Cert.KernelIdeal.τ).loc Cert.KernelIdeal.main_arg1))
include hf hb

/-- An element of the kernel's result is the reference's. -/
theorem result_apply (n : Fin 32) (ch : Fin 32) (t j : Fin 4) (k i : Fin 7) :
    (show Vec Ideal Cert.KernelIdeal.S32x32x4x4x7x7 .f32 from result m (checked m h) c) (ix6 n ch t j k i) = refOut V0 (ix6 n ch t j k i) := by
  obtain ⟨x, hx⟩ := crops m h (boxB n) (boxK n)
  have hx' : x.At (boxesOf V0) (boxB n) (boxK n) := by
    obtain rfl : c = 0 := Subsingleton.elim _ _
    rw [hb]; exact hx
  obtain ⟨hneg, hle⟩ := box_arr (B1 m) (tbl m) (checked m h) c (ix6 n ch t j k i) (boxB n) (boxK n) x
    (by show n.val = n.val / 16 * 16 + n.val % 16; omega) hx
  have hv0 : B1 m c Cert.KernelIdeal.main_v0 = pooled (m ((c : Thread Cert.KernelIdeal.nD Cert.KernelIdeal.τ).loc Cert.KernelIdeal.main_arg0)) :=
    (C1_arr m c 1).trans (main_v0_eq m c)
  refine eq_of_forall_ge_iff fun z => ?_
  by_cases hz : negZ ≤ z
  · refine (hle z hz).trans (Iff.trans ?_ (refOut_le V0 n hx' z hz ch t j k i).symm)
    rw [hv0, hf]
    exact bins_iff _ x _ _ _ _ _ _ z
  · exact iff_of_false (fun g => hz (hneg.trans g)) (fun g => hz ((neg_le_refOut V0 n hx' ch t j k i).trans g))

/-- The kernel's result is the reference's. -/
theorem result_eq : (show Vec Ideal Cert.KernelIdeal.S32x32x4x4x7x7 .f32 from result m (checked m h) c) = refOut V0 := by
  funext y
  rw [ValueIdx.eq_ix6 y]
  exact result_apply m h c V0 hf hb _ _ _ _ _ _

end

/-- The kernel at the ideal values computes the reference. -/
theorem algebraic : Cert.algebraic_KernelIdeal_ReferenceIdeal := fun m g m' g' hpre hargs =>
  ⟨fun c => result m (checked m hpre) c,
    (θ_run Cert.KernelIdeal.defs _ _).mono (fun _ hr => hr.1) (run m g (checked m hpre)),
    (θ_run Cert.ReferenceIdeal.defs _ _).mono
      (fun _ hr c => ⟨(hr c).1.trans ((refOut_eq _).trans (result_eq m hpre c _ (hargs c).1 (hargs c).2).symm), (hr c).2⟩)
      (Cert.ReferenceIdeal.Value.run (F := Ideal) m' g')⟩

end Cert.Roi
-- ==== Proof.lean ====
/-
  The proof of the claim: the frames of the kernel and of its ideal, the frame of the reference with and without the
  precondition, the ideal kernel being the kernel's own text, and the ideal kernel's result being the reference's.
-/
module

public import proofs.«01_k».proof.Defs
public import proofs.«01_k».proof.Proof.Join.Equal

@[expose] public section

noncomputable section

namespace Cert.Proof

theorem claim : Cert.Claim :=
  ⟨Cert.Kernel.Gen.facts, Cert.KernelIdeal.Gen.facts, Cert.ReferenceIdeal.Gen.facts, Cert.Pre_boxes_in_range.Gen.facts,
    Cert.Roi.frame_kernel, Cert.Roi.frame_kernelIdeal, Cert.Roi.frame_referenceIdeal, Cert.Roi.frame_referenceIdeal_pre,
    trivial, Cert.Roi.algebraic⟩

end Cert.Proof

end
